-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Da (m : (ℓ : Loc Cert.Da.nD Cert.Da.τ Cert.Da.sig) → Buf (Elt Bits) ℓ) : Prop :=
  True

def Pre_DaIdeal (m : (ℓ : Loc Cert.DaIdeal.nD Cert.DaIdeal.τ Cert.DaIdeal.sig) → Buf (Elt Ideal) ℓ) : Prop :=
  True

def Pre_Sw (m : (ℓ : Loc Cert.Sw.nD Cert.Sw.τ Cert.Sw.sig) → Buf (Elt Bits) ℓ) : Prop :=
  True

def Pre_SwIdeal (m : (ℓ : Loc Cert.SwIdeal.nD Cert.SwIdeal.τ Cert.SwIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Da [hDa : Cert.Da.Facts] : Prop :=
  ∀ (m : (ℓ : Loc Cert.Da.nD Cert.Da.τ Cert.Da.sig) → Buf (Elt Bits) ℓ) (g : Dev Cert.Da.nD → PrngReg), Pre_Da m →
    θ_run (Cert.Da.defs (F := Bits)) (onTc (τ := Cert.Da.τ) (Cert.Da.main (F := Bits))) ⟨m, fun _ => 0, g⟩ (fun r => (∀ c : Dev Cert.Da.nD,
      r.2.mem ((c.tc : Thread Cert.Da.nD Cert.Da.τ).loc Cert.Da.main_arg0) = m ((c.tc : Thread Cert.Da.nD Cert.Da.τ).loc Cert.Da.main_arg0)
      ∧ r.2.mem ((c.tc : Thread Cert.Da.nD Cert.Da.τ).loc Cert.Da.main_arg1) = m ((c.tc : Thread Cert.Da.nD Cert.Da.τ).loc Cert.Da.main_arg1)
      ∧ r.2.mem ((c.tc : Thread Cert.Da.nD Cert.Da.τ).loc Cert.Da.main_arg2) = m ((c.tc : Thread Cert.Da.nD Cert.Da.τ).loc Cert.Da.main_arg2)
      ∧ r.2.mem ((c.tc : Thread Cert.Da.nD Cert.Da.τ).loc Cert.Da.main_arg3) = m ((c.tc : Thread Cert.Da.nD Cert.Da.τ).loc Cert.Da.main_arg3)
      ∧ r.2.mem ((c.tc : Thread Cert.Da.nD Cert.Da.τ).loc Cert.Da.main_arg4) = m ((c.tc : Thread Cert.Da.nD Cert.Da.τ).loc Cert.Da.main_arg4)
      ∧ r.2.mem ((c.tc : Thread Cert.Da.nD Cert.Da.τ).loc Cert.Da.main_arg5) = m ((c.tc : Thread Cert.Da.nD Cert.Da.τ).loc Cert.Da.main_arg5))
      ∧ r.2.sem = fun _ => 0)

def quiescent_DaIdeal [hDaIdeal : Cert.DaIdeal.Facts] : Prop :=
  ∀ (m : (ℓ : Loc Cert.DaIdeal.nD Cert.DaIdeal.τ Cert.DaIdeal.sig) → Buf (Elt Ideal) ℓ) (g : Dev Cert.DaIdeal.nD → PrngReg), Pre_DaIdeal m →
    θ_run (Cert.DaIdeal.defs (F := Ideal)) (onTc (τ := Cert.DaIdeal.τ) (Cert.DaIdeal.main (F := Ideal))) ⟨m, fun _ => 0, g⟩ (fun r => (∀ c : Dev Cert.DaIdeal.nD,
      r.2.mem ((c.tc : Thread Cert.DaIdeal.nD Cert.DaIdeal.τ).loc Cert.DaIdeal.main_arg0) = m ((c.tc : Thread Cert.DaIdeal.nD Cert.DaIdeal.τ).loc Cert.DaIdeal.main_arg0)
      ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
      ∧ r.2.mem ((c.tc : Thread Cert.DaIdeal.nD Cert.DaIdeal.τ).loc Cert.DaIdeal.main_arg2) = m ((c.tc : Thread Cert.DaIdeal.nD Cert.DaIdeal.τ).loc Cert.DaIdeal.main_arg2)
      ∧ r.2.mem ((c.tc : Thread Cert.DaIdeal.nD Cert.DaIdeal.τ).loc Cert.DaIdeal.main_arg3) = m ((c.tc : Thread Cert.DaIdeal.nD Cert.DaIdeal.τ).loc Cert.DaIdeal.main_arg3)
      ∧ r.2.mem ((c.tc : Thread Cert.DaIdeal.nD Cert.DaIdeal.τ).loc Cert.DaIdeal.main_arg4) = m ((c.tc : Thread Cert.DaIdeal.nD Cert.DaIdeal.τ).loc Cert.DaIdeal.main_arg4)
      ∧ r.2.mem ((c.tc : Thread Cert.DaIdeal.nD Cert.DaIdeal.τ).loc Cert.DaIdeal.main_arg5) = m ((c.tc : Thread Cert.DaIdeal.nD Cert.DaIdeal.τ).loc Cert.DaIdeal.main_arg5))
      ∧ r.2.sem = fun _ => 0)

def quiescent_Sw [hSw : Cert.Sw.Facts] : Prop :=
  ∀ (m : (ℓ : Loc Cert.Sw.nD Cert.Sw.τ Cert.Sw.sig) → Buf (Elt Bits) ℓ) (g : Dev Cert.Sw.nD → PrngReg), Pre_Sw m →
    θ_run (Cert.Sw.defs (F := Bits)) (onTc (τ := Cert.Sw.τ) (Cert.Sw.main (F := Bits))) ⟨m, fun _ => 0, g⟩ (fun r => (∀ c : Dev Cert.Sw.nD,
      r.2.mem ((c.tc : Thread Cert.Sw.nD Cert.Sw.τ).loc Cert.Sw.main_arg0) = m ((c.tc : Thread Cert.Sw.nD Cert.Sw.τ).loc Cert.Sw.main_arg0)
      ∧ r.2.mem ((c.tc : Thread Cert.Sw.nD Cert.Sw.τ).loc Cert.Sw.main_arg1) = m ((c.tc : Thread Cert.Sw.nD Cert.Sw.τ).loc Cert.Sw.main_arg1)
      ∧ r.2.mem ((c.tc : Thread Cert.Sw.nD Cert.Sw.τ).loc Cert.Sw.main_arg2) = m ((c.tc : Thread Cert.Sw.nD Cert.Sw.τ).loc Cert.Sw.main_arg2)
      ∧ r.2.mem ((c.tc : Thread Cert.Sw.nD Cert.Sw.τ).loc Cert.Sw.main_arg3) = m ((c.tc : Thread Cert.Sw.nD Cert.Sw.τ).loc Cert.Sw.main_arg3))
      ∧ r.2.sem = fun _ => 0)

def quiescent_SwIdeal [hSwIdeal : Cert.SwIdeal.Facts] : Prop :=
  ∀ (m : (ℓ : Loc Cert.SwIdeal.nD Cert.SwIdeal.τ Cert.SwIdeal.sig) → Buf (Elt Ideal) ℓ) (g : Dev Cert.SwIdeal.nD → PrngReg), Pre_SwIdeal m →
    θ_run (Cert.SwIdeal.defs (F := Ideal)) (onTc (τ := Cert.SwIdeal.τ) (Cert.SwIdeal.main (F := Ideal))) ⟨m, fun _ => 0, g⟩ (fun r => (∀ c : Dev Cert.SwIdeal.nD,
      r.2.mem ((c.tc : Thread Cert.SwIdeal.nD Cert.SwIdeal.τ).loc Cert.SwIdeal.main_arg0) = m ((c.tc : Thread Cert.SwIdeal.nD Cert.SwIdeal.τ).loc Cert.SwIdeal.main_arg0)
      ∧ r.2.mem ((c.tc : Thread Cert.SwIdeal.nD Cert.SwIdeal.τ).loc Cert.SwIdeal.main_arg1) = m ((c.tc : Thread Cert.SwIdeal.nD Cert.SwIdeal.τ).loc Cert.SwIdeal.main_arg1)
      ∧ r.2.mem ((c.tc : Thread Cert.SwIdeal.nD Cert.SwIdeal.τ).loc Cert.SwIdeal.main_arg2) = m ((c.tc : Thread Cert.SwIdeal.nD Cert.SwIdeal.τ).loc Cert.SwIdeal.main_arg2)
      ∧ r.2.mem ((c.tc : Thread Cert.SwIdeal.nD Cert.SwIdeal.τ).loc Cert.SwIdeal.main_arg3) = m ((c.tc : Thread Cert.SwIdeal.nD Cert.SwIdeal.τ).loc Cert.SwIdeal.main_arg3))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v25) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v22)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v22) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v81) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v16_0)) (v1 : (c : Dev Cert.ProjIdeal.nD) → Buf (Elt Ideal) ((c.tc : Thread Cert.ProjIdeal.nD Cert.ProjIdeal.τ).loc Cert.ProjIdeal.main_v16_1)) (v2 : (c : Dev Cert.ProjIdeal.nD) → Buf (Elt Ideal) ((c.tc : Thread Cert.ProjIdeal.nD Cert.ProjIdeal.τ).loc Cert.ProjIdeal.main_v16_2)) (v3 : (c : Dev Cert.ProjIdeal.nD) → Buf (Elt Ideal) ((c.tc : Thread Cert.ProjIdeal.nD Cert.ProjIdeal.τ).loc Cert.ProjIdeal.main_v16_3)) (v4 : (c : Dev Cert.ProjIdeal.nD) → Buf (Elt Ideal) ((c.tc : Thread Cert.ProjIdeal.nD Cert.ProjIdeal.τ).loc Cert.ProjIdeal.main_v16_4)) (v5 : (c : Dev Cert.ProjIdeal.nD) → Buf (Elt Ideal) ((c.tc : Thread Cert.ProjIdeal.nD Cert.ProjIdeal.τ).loc Cert.ProjIdeal.main_v16_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v16_0) = v0 c
          ∧ r.2.mem ((c.tc : Thread Cert.ProjIdeal.nD Cert.ProjIdeal.τ).loc Cert.ProjIdeal.main_v16_1) = v1 c
          ∧ r.2.mem ((c.tc : Thread Cert.ProjIdeal.nD Cert.ProjIdeal.τ).loc Cert.ProjIdeal.main_v16_2) = v2 c
          ∧ r.2.mem ((c.tc : Thread Cert.ProjIdeal.nD Cert.ProjIdeal.τ).loc Cert.ProjIdeal.main_v16_3) = v3 c
          ∧ r.2.mem ((c.tc : Thread Cert.ProjIdeal.nD Cert.ProjIdeal.τ).loc Cert.ProjIdeal.main_v16_4) = v4 c
          ∧ r.2.mem ((c.tc : Thread Cert.ProjIdeal.nD Cert.ProjIdeal.τ).loc Cert.ProjIdeal.main_v16_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v28) = v0 c
          ∧ r.2.mem ((c.tc : Thread Cert.ProjRefIdeal.nD Cert.ProjRefIdeal.τ).loc Cert.ProjRefIdeal.main_v30) = v1 c
          ∧ r.2.mem ((c.tc : Thread Cert.ProjRefIdeal.nD Cert.ProjRefIdeal.τ).loc Cert.ProjRefIdeal.main_v34) = v2 c
          ∧ r.2.mem ((c.tc : Thread Cert.ProjRefIdeal.nD Cert.ProjRefIdeal.τ).loc Cert.ProjRefIdeal.main_v36) = v3 c
          ∧ r.2.mem ((c.tc : Thread Cert.ProjRefIdeal.nD Cert.ProjRefIdeal.τ).loc Cert.ProjRefIdeal.main_v37) = v4 c
          ∧ r.2.mem ((c.tc : Thread Cert.ProjRefIdeal.nD Cert.ProjRefIdeal.τ).loc Cert.ProjRefIdeal.main_v38) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Da_DaIdeal : Prop :=
  True

def preserves_Sw_SwIdeal : Prop :=
  True

def Claim : Prop :=
  ∃ (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hDa : Cert.Da.Facts) (hDaIdeal : Cert.DaIdeal.Facts) (hSw : Cert.Sw.Facts) (hSwIdeal : Cert.SwIdeal.Facts),
    quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ quiescent_Da (hDa := hDa)
    ∧ quiescent_DaIdeal (hDaIdeal := hDaIdeal)
    ∧ quiescent_Sw (hSw := hSw)
    ∧ quiescent_SwIdeal (hSwIdeal := hSwIdeal)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
    ∧ preserves_Da_DaIdeal
    ∧ preserves_Sw_SwIdeal
-- ==== Ffn.lean ====
abbrev S16x2048x1024 : Shape := ⟨3, ![16, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S32768x1024 : Shape := ⟨2, ![32768, 1024]⟩
abbrev S1024x2816 : Shape := ⟨2, ![1024, 2816]⟩
abbrev S2816x1024 : Shape := ⟨2, ![2816, 1024]⟩
abbrev S1024x1024 : Shape := ⟨2, ![1024, 1024]⟩
abbrev S1024x1 : Shape := ⟨2, ![1024, 1]⟩
abbrev S1024x256 : Shape := ⟨2, ![1024, 256]⟩

abbrev nBuf : Space → Nat
  | .hbm => 17
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S32768x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024x2816, .f32⟩
  | .hbm, ⟨11, _⟩ => ⟨S1024x2816, .bf16⟩
  | .hbm, ⟨12, _⟩ => ⟨S1024x2816, .f32⟩
  | .hbm, ⟨13, _⟩ => ⟨S1024x2816, .bf16⟩
  | .hbm, ⟨14, _⟩ => ⟨S2816x1024, .f32⟩
  | .hbm, ⟨15, _⟩ => ⟨S2816x1024, .bf16⟩
  | .hbm, ⟨16, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x2816, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S16x2048x1024 : Shape := ⟨3, ![16, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1024x2816 : Shape := ⟨2, ![1024, 2816]⟩
abbrev S2816x1024 : Shape := ⟨2, ![2816, 1024]⟩
abbrev S32768x2816 : Shape := ⟨2, ![32768, 2816]⟩

abbrev nBuf : Space → Nat
  | .hbm => 44
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S32768x1024, .f32⟩
  | .hbm, ⟨7, _⟩ => ⟨S1024, .f32⟩
  | .hbm, ⟨8, _⟩ => ⟨S32768x1024, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S1x1024, .f32⟩
  | .hbm, ⟨22, _⟩ => ⟨S32768x1024, .f32⟩
  | .hbm, ⟨23, _⟩ => ⟨S32768x1024, .f32⟩
  | .hbm, ⟨24, _⟩ => ⟨S1024x2816, .f32⟩
  | .hbm, ⟨25, _⟩ => ⟨S1024x2816, .f32⟩
  | .hbm, ⟨26, _⟩ => ⟨S2816x1024, .f32⟩
  | .hbm, ⟨27, _⟩ => ⟨S32768x2816, .f32⟩
  | .hbm, ⟨28, _⟩ => ⟨S32768x2816, .f32⟩
  | .hbm, ⟨29, _⟩ => ⟨S32768x2816, .f32⟩
  | .hbm, ⟨30, _⟩ => ⟨S_, .f32⟩
  | .hbm, ⟨31, _⟩ => ⟨S32768x2816, .f32⟩
  | .hbm, ⟨32, _⟩ => ⟨S32768x2816, .f32⟩
  | .hbm, ⟨33, _⟩ => ⟨S_, .f32⟩
  | .hbm, ⟨34, _⟩ => ⟨S32768x2816, .f32⟩
  | .hbm, ⟨35, _⟩ => ⟨S32768x2816, .f32⟩
  | .hbm, ⟨36, _⟩ => ⟨S32768x2816, .f32⟩
  | .hbm, ⟨37, _⟩ => ⟨S32768x2816, .f32⟩
  | .hbm, ⟨38, _⟩ => ⟨S32768x2816, .f32⟩
  | .hbm, ⟨39, _⟩ => ⟨S32768x1024, .f32⟩
  | .hbm, ⟨40, _⟩ => ⟨S_, .f32⟩
  | .hbm, ⟨41, _⟩ => ⟨S32768x1024, .f32⟩
  | .hbm, ⟨42, _⟩ => ⟨S32768x1024, .f32⟩
  | .hbm, ⟨43, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== Merge.lean ====
abbrev S32768x1024 : Shape := ⟨2, ![32768, 1024]⟩
abbrev S1x1024 : Shape := ⟨2, ![1, 1024]⟩
abbrev S1x1024x6656 : Shape := ⟨3, ![1, 1024, 6656]⟩
abbrev S1x2x1024 : Shape := ⟨3, ![1, 2, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x6656 : Shape := ⟨2, ![1024, 6656]⟩
abbrev S1024x2048 : Shape := ⟨2, ![1024, 2048]⟩
abbrev S2x1024 : Shape := ⟨2, ![2, 1024]⟩
abbrev S1x2048 : Shape := ⟨2, ![1, 2048]⟩
abbrev S1024x1024 : Shape := ⟨2, ![1024, 1024]⟩
abbrev S1024x2816 : Shape := ⟨2, ![1024, 2816]⟩
abbrev S2816x1024 : Shape := ⟨2, ![2816, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S512x2048 : Shape := ⟨2, ![512, 2048]⟩
abbrev S1024x256 : Shape := ⟨2, ![1024, 256]⟩
abbrev S512x256 : Shape := ⟨2, ![512, 256]⟩

abbrev nBuf : Space → Nat
  | .hbm => 37
  | .vmem => 20
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x6656, .f32⟩
  | .hbm, ⟨3, _⟩ => ⟨S1x2x1024, .f32⟩
  | .hbm, ⟨4, _⟩ => ⟨S32768x1024, .bf16⟩
  | .hbm, ⟨5, _⟩ => ⟨S32768x1024, .bf16⟩
  | .hbm, ⟨6, _⟩ => ⟨S1x1024x1024, .f32⟩
  | .hbm, ⟨7, _⟩ => ⟨S1x1024x1024, .f32⟩
  | .hbm, ⟨8, _⟩ => ⟨S1x1024x1024, .f32⟩
  | .hbm, ⟨9, _⟩ => ⟨S1x1024, .f32⟩
  | .hbm, ⟨10, _⟩ => ⟨S1x1024x2816, .f32⟩
  | .hbm, ⟨11, _⟩ => ⟨S1x1024x2816, .f32⟩
  | .hbm, ⟨12, _⟩ => ⟨S1x2816x1024, .f32⟩
  | .hbm, ⟨13, _⟩ => ⟨S1024, .f32⟩
  | .hbm, ⟨14, _⟩ => ⟨S1x1024, .f32⟩
  | .hbm, ⟨15, _⟩ => ⟨S1024x6656, .f32⟩
  | .hbm, ⟨16, _⟩ => ⟨S1024, .f32⟩
  | .hbm, ⟨17, _⟩ => ⟨S1x1024, .f32⟩
  | .hbm, ⟨18, _⟩ => ⟨S1024x2048, .f32⟩
  | .hbm, ⟨19, _⟩ => ⟨S1024x2048, .bf16⟩
  | .hbm, ⟨20, _⟩ => ⟨S2x1024, .f32⟩
  | .hbm, ⟨21, _⟩ => ⟨S1x2048, .f32⟩
  | .hbm, ⟨22, _⟩ => ⟨S1024x1024, .f32⟩
  | .hbm, ⟨23, _⟩ => ⟨S1024x1024, .bf16⟩
  | .hbm, ⟨24, _⟩ => ⟨S1024x1024, .f32⟩
  | .hbm, ⟨25, _⟩ => ⟨S1024x1024, .bf16⟩
  | .hbm, ⟨26, _⟩ => ⟨S1024x1024, .f32⟩
  | .hbm, ⟨27, _⟩ => ⟨S1024x1024, .bf16⟩
  | .hbm, ⟨28, _⟩ => ⟨S1024, .f32⟩
  | .hbm, ⟨29, _⟩ => ⟨S1x1024, .f32⟩
  | .hbm, ⟨30, _⟩ => ⟨S1024x2816, .f32⟩
  | .hbm, ⟨31, _⟩ => ⟨S1024x2816, .bf16⟩
  | .hbm, ⟨32, _⟩ => ⟨S1024x2816, .f32⟩
  | .hbm, ⟨33, _⟩ => ⟨S1024x2816, .bf16⟩
  | .hbm, ⟨34, _⟩ => ⟨S2816x1024, .f32⟩
  | .hbm, ⟨35, _⟩ => ⟨S2816x1024, .bf16⟩
  | .hbm, ⟨36, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1x2048, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x2816, .bf16⟩
  | .local _ .vmem, ⟨14, _⟩ => ⟨S1024x2816, .bf16⟩
  | .local _ .vmem, ⟨15, _⟩ => ⟨S2816x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S512x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeRefIdeal.lean ====
abbrev S32768x1024 : Shape := ⟨2, ![32768, 1024]⟩
abbrev S1x1024 : Shape := ⟨2, ![1, 1024]⟩
abbrev S1x1024x6656 : Shape := ⟨3, ![1, 1024, 6656]⟩
abbrev S1x2x1024 : Shape := ⟨3, ![1, 2, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x6656 : Shape := ⟨2, ![1024, 6656]⟩
abbrev S32768x6656 : Shape := ⟨2, ![32768, 6656]⟩
abbrev S32768x2048 : Shape := ⟨2, ![32768, 2048]⟩
abbrev S32768x2x1024 : Shape := ⟨3, ![32768, 2, 1024]⟩
abbrev S2x1024 : Shape := ⟨2, ![2, 1024]⟩
abbrev S32768x1x1024 : Shape := ⟨3, ![32768, 1, 1024]⟩
abbrev S1024x1024 : Shape := ⟨2, ![1024, 1024]⟩
abbrev S1024x2816 : Shape := ⟨2, ![1024, 2816]⟩
abbrev S2816x1024 : Shape := ⟨2, ![2816, 1024]⟩
abbrev S32768x2816 : Shape := ⟨2, ![32768, 2816]⟩

abbrev nBuf : Space → Nat
  | .hbm => 116
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x6656, .f32⟩
  | .hbm, ⟨3, _⟩ => ⟨S1x2x1024, .f32⟩
  | .hbm, ⟨4, _⟩ => ⟨S32768x1024, .bf16⟩
  | .hbm, ⟨5, _⟩ => ⟨S32768x1024, .bf16⟩
  | .hbm, ⟨6, _⟩ => ⟨S1x1024x1024, .f32⟩
  | .hbm, ⟨7, _⟩ => ⟨S1x1024x1024, .f32⟩
  | .hbm, ⟨8, _⟩ => ⟨S1x1024x1024, .f32⟩
  | .hbm, ⟨9, _⟩ => ⟨S1x1024, .f32⟩
  | .hbm, ⟨10, _⟩ => ⟨S1x1024x2816, .f32⟩
  | .hbm, ⟨11, _⟩ => ⟨S1x1024x2816, .f32⟩
  | .hbm, ⟨12, _⟩ => ⟨S1x2816x1024, .f32⟩
  | .hbm, ⟨13, _⟩ => ⟨S1024, .f32⟩
  | .hbm, ⟨14, _⟩ => ⟨S1024, .f32⟩
  | .hbm, ⟨15, _⟩ => ⟨S32768x1024, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x1, .f32⟩
  | .hbm, ⟨26, _⟩ => ⟨S32768x1024, .f32⟩
  | .hbm, ⟨27, _⟩ => ⟨S32768x1024, .f32⟩
  | .hbm, ⟨28, _⟩ => ⟨S1x1024, .f32⟩
  | .hbm, ⟨29, _⟩ => ⟨S32768x1024, .f32⟩
  | .hbm, ⟨30, _⟩ => ⟨S32768x1024, .f32⟩
  | .hbm, ⟨31, _⟩ => ⟨S1024x6656, .f32⟩
  | .hbm, ⟨32, _⟩ => ⟨S32768x6656, .f32⟩
  | .hbm, ⟨33, _⟩ => ⟨S32768x2048, .f32⟩
  | .hbm, ⟨34, _⟩ => ⟨S32768x2x1024, .f32⟩
  | .hbm, ⟨35, _⟩ => ⟨S2x1024, .f32⟩
  | .hbm, ⟨36, _⟩ => ⟨S1x2x1024, .f32⟩
  | .hbm, ⟨37, _⟩ => ⟨S32768x2x1024, .f32⟩
  | .hbm, ⟨38, _⟩ => ⟨S32768x2x1024, .f32⟩
  | .hbm, ⟨39, _⟩ => ⟨S32768x2x1024, .f32⟩
  | .hbm, ⟨40, _⟩ => ⟨S32768x2x1024, .f32⟩
  | .hbm, ⟨41, _⟩ => ⟨S_, .f32⟩
  | .hbm, ⟨42, _⟩ => ⟨S32768x2x1024, .f32⟩
  | .hbm, ⟨43, _⟩ => ⟨S32768x2x1024, .f32⟩
  | .hbm, ⟨44, _⟩ => ⟨S_, .f32⟩
  | .hbm, ⟨45, _⟩ => ⟨S32768x2x1024, .f32⟩
  | .hbm, ⟨46, _⟩ => ⟨S32768x2x1024, .f32⟩
  | .hbm, ⟨47, _⟩ => ⟨S32768x1024, .f32⟩
  | .hbm, ⟨48, _⟩ => ⟨S32768x1024, .f32⟩
  | .hbm, ⟨49, _⟩ => ⟨S32768x1x1024, .f32⟩
  | .hbm, ⟨50, _⟩ => ⟨S32768x1024, .f32⟩
  | .hbm, ⟨51, _⟩ => ⟨S1024x1024, .f32⟩
  | .hbm, ⟨52, _⟩ => ⟨S32768x1024, .f32⟩
  | .hbm, ⟨53, _⟩ => ⟨S32768x1024, .f32⟩
  | .hbm, ⟨54, _⟩ => ⟨S32768x1x1024, .f32⟩
  | .hbm, ⟨55, _⟩ => ⟨S32768x1024, .f32⟩
  | .hbm, ⟨56, _⟩ => ⟨S1024x1024, .f32⟩
  | .hbm, ⟨57, _⟩ => ⟨S32768x1024, .f32⟩
  | .hbm, ⟨58, _⟩ => ⟨S32768x1024, .f32⟩
  | .hbm, ⟨59, _⟩ => ⟨S32768x1024, .f32⟩
  | .hbm, ⟨60, _⟩ => ⟨S1024x1024, .f32⟩
  | .hbm, ⟨61, _⟩ => ⟨S32768x1024, .f32⟩
  | .hbm, ⟨62, _⟩ => ⟨S32768x1024, .f32⟩
  | .hbm, ⟨63, _⟩ => ⟨S1024, .f32⟩
  | .hbm, ⟨64, _⟩ => ⟨S32768x1024, .f32⟩
  | .hbm, ⟨65, _⟩ => ⟨S_, .f32⟩
  | .hbm, ⟨66, _⟩ => ⟨S32768, .f32⟩
  | .hbm, ⟨67, _⟩ => ⟨S32768x1, .f32⟩
  | .hbm, ⟨68, _⟩ => ⟨S_, .f32⟩
  | .hbm, ⟨69, _⟩ => ⟨S32768x1, .f32⟩
  | .hbm, ⟨70, _⟩ => ⟨S32768x1, .f32⟩
  | .hbm, ⟨71, _⟩ => ⟨S_, .f32⟩
  | .hbm, ⟨72, _⟩ => ⟨S32768x1, .f32⟩
  | .hbm, ⟨73, _⟩ => ⟨S32768x1, .f32⟩
  | .hbm, ⟨74, _⟩ => ⟨S32768x1, .f32⟩
  | .hbm, ⟨75, _⟩ => ⟨S32768x1024, .f32⟩
  | .hbm, ⟨76, _⟩ => ⟨S32768x1024, .f32⟩
  | .hbm, ⟨77, _⟩ => ⟨S1x1024, .f32⟩
  | .hbm, ⟨78, _⟩ => ⟨S32768x1024, .f32⟩
  | .hbm, ⟨79, _⟩ => ⟨S32768x1024, .f32⟩
  | .hbm, ⟨80, _⟩ => ⟨S1024x2816, .f32⟩
  | .hbm, ⟨81, _⟩ => ⟨S1024x2816, .f32⟩
  | .hbm, ⟨82, _⟩ => ⟨S2816x1024, .f32⟩
  | .hbm, ⟨83, _⟩ => ⟨S32768x2816, .f32⟩
  | .hbm, ⟨84, _⟩ => ⟨S32768x2816, .f32⟩
  | .hbm, ⟨85, _⟩ => ⟨S32768x2816, .f32⟩
  | .hbm, ⟨86, _⟩ => ⟨S_, .f32⟩
  | .hbm, ⟨87, _⟩ => ⟨S32768x2816, .f32⟩
  | .hbm, ⟨88, _⟩ => ⟨S32768x2816, .f32⟩
  | .hbm, ⟨89, _⟩ => ⟨S_, .f32⟩
  | .hbm, ⟨90, _⟩ => ⟨S32768x2816, .f32⟩
  | .hbm, ⟨91, _⟩ => ⟨S32768x2816, .f32⟩
  | .hbm, ⟨92, _⟩ => ⟨S32768x2816, .f32⟩
  | .hbm, ⟨93, _⟩ => ⟨S32768x2816, .f32⟩
  | .hbm, ⟨94, _⟩ => ⟨S32768x2816, .f32⟩
  | .hbm, ⟨95, _⟩ => ⟨S32768x1024, .f32⟩
  | .hbm, ⟨96, _⟩ => ⟨S_, .f32⟩
  | .hbm, ⟨97, _⟩ => ⟨S32768x1024, .f32⟩
  | .hbm, ⟨98, _⟩ => ⟨S32768x1024, .f32⟩
  | .hbm, ⟨99, _⟩ => ⟨S32768x1024, .f32⟩
  | .hbm, ⟨100, _⟩ => ⟨S32768x1024, .f32⟩
  | .hbm, ⟨101, _⟩ => ⟨S_, .f32⟩
  | .hbm, ⟨102, _⟩ => ⟨S32768, .f32⟩
  | .hbm, ⟨103, _⟩ => ⟨S32768x1, .f32⟩
  | .hbm, ⟨104, _⟩ => ⟨S_, .f32⟩
  | .hbm, ⟨105, _⟩ => ⟨S32768x1, .f32⟩
  | .hbm, ⟨106, _⟩ => ⟨S32768x1, .f32⟩
  | .hbm, ⟨107, _⟩ => ⟨S_, .f32⟩
  | .hbm, ⟨108, _⟩ => ⟨S32768x1, .f32⟩
  | .hbm, ⟨109, _⟩ => ⟨S32768x1, .f32⟩
  | .hbm, ⟨110, _⟩ => ⟨S32768x1, .f32⟩
  | .hbm, ⟨111, _⟩ => ⟨S32768x1024, .f32⟩
  | .hbm, ⟨112, _⟩ => ⟨S32768x1024, .f32⟩
  | .hbm, ⟨113, _⟩ => ⟨S1x1024, .f32⟩
  | .hbm, ⟨114, _⟩ => ⟨S32768x1024, .f32⟩
  | .hbm, ⟨115, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_4 : Ref sig .tc := ⟨.hbm, 65, rfl⟩
abbrev main_v46 : Ref sig .tc := ⟨.hbm, 66, rfl⟩
abbrev main_v47 : Ref sig .tc := ⟨.hbm, 67, rfl⟩
abbrev main_cst_5 : Ref sig .tc := ⟨.hbm, 68, rfl⟩
abbrev main_v48 : Ref sig .tc := ⟨.hbm, 69, rfl⟩
abbrev main_v49 : Ref sig .tc := ⟨.hbm, 70, rfl⟩
abbrev main_cst_6 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call0_v0 : Ref sig .tc := ⟨.hbm, 84, rfl⟩
abbrev main_call0_v1 : Ref sig .tc := ⟨.hbm, 85, rfl⟩
abbrev main_call0_cst : Ref sig .tc := ⟨.hbm, 86, rfl⟩
abbrev main_call0_v2 : Ref sig .tc := ⟨.hbm, 87, rfl⟩
abbrev main_call0_v3 : Ref sig .tc := ⟨.hbm, 88, rfl⟩
abbrev main_call0_cst_0 : Ref sig .tc := ⟨.hbm, 89, rfl⟩
abbrev main_call0_v4 : Ref sig .tc := ⟨.hbm, 90, rfl⟩
abbrev main_call0_v5 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_7 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_8 : Ref sig .tc := ⟨.hbm, 101, rfl⟩
abbrev main_v70 : Ref sig .tc := ⟨.hbm, 102, rfl⟩
abbrev main_v71 : Ref sig .tc := ⟨.hbm, 103, rfl⟩
abbrev main_cst_9 : Ref sig .tc := ⟨.hbm, 104, rfl⟩
abbrev main_v72 : Ref sig .tc := ⟨.hbm, 105, rfl⟩
abbrev main_v73 : Ref sig .tc := ⟨.hbm, 106, rfl⟩
abbrev main_cst_10 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩

abbrev nD : Nat := 1
abbrev τ : Topo := Topo.v7x

variable {F : FTy → Type} [FloatOps F]
-- ==== Proj.lean ====
abbrev S32768x1024 : Shape := ⟨2, ![32768, 1024]⟩
abbrev S1x1024 : Shape := ⟨2, ![1, 1024]⟩
abbrev S1x1024x6656 : Shape := ⟨3, ![1, 1024, 6656]⟩
abbrev S1024x6656 : Shape := ⟨2, ![1024, 6656]⟩
abbrev S1024x1024 : Shape := ⟨2, ![1024, 1024]⟩
abbrev S1024x256 : Shape := ⟨2, ![1024, 256]⟩
abbrev S1024x4x1x64 : Shape := ⟨4, ![1024, 4, 1, 64]⟩
abbrev S1024x4x2x64 : Shape := ⟨4, ![1024, 4, 2, 64]⟩
abbrev S1024x512 : Shape := ⟨2, ![1024, 512]⟩
abbrev S1024x1536 : Shape := ⟨2, ![1024, 1536]⟩
abbrev S1024x2048 : Shape := ⟨2, ![1024, 2048]⟩
abbrev S1024x3328 : Shape := ⟨2, ![1024, 3328]⟩
abbrev S3328x1024 : Shape := ⟨2, ![3328, 1024]⟩
abbrev S1024 : Shape := ⟨1, ![1024]⟩
abbrev S1024x32768 : Shape := ⟨2, ![1024, 32768]⟩
abbrev S256x32768 : Shape := ⟨2, ![256, 32768]⟩
abbrev S32768x512 : Shape := ⟨2, ![32768, 512]⟩
abbrev S256x1024 : Shape := ⟨2, ![256, 1024]⟩
abbrev S1024x1 : Shape := ⟨2, ![1024, 1]⟩
abbrev S512x1024 : Shape := ⟨2, ![512, 1024]⟩

abbrev nBuf : Space → Nat
  | .hbm => 25
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x6656, .f32⟩
  | .hbm, ⟨3, _⟩ => ⟨S1024x6656, .f32⟩
  | .hbm, ⟨4, _⟩ => ⟨S1024x1024, .f32⟩
  | .hbm, ⟨5, _⟩ => ⟨S1024x256, .f32⟩
  | .hbm, ⟨6, _⟩ => ⟨S1024x4x1x64, .f32⟩
  | .hbm, ⟨7, _⟩ => ⟨S1024x4x2x64, .f32⟩
  | .hbm, ⟨8, _⟩ => ⟨S1024x512, .f32⟩
  | .hbm, ⟨9, _⟩ => ⟨S1024x1536, .f32⟩
  | .hbm, ⟨10, _⟩ => ⟨S1024x1536, .bf16⟩
  | .hbm, ⟨11, _⟩ => ⟨S1024x1024, .f32⟩
  | .hbm, ⟨12, _⟩ => ⟨S1024x2048, .f32⟩
  | .hbm, ⟨13, _⟩ => ⟨S1024x256, .f32⟩
  | .hbm, ⟨14, _⟩ => ⟨S1024x3328, .f32⟩
  | .hbm, ⟨15, _⟩ => ⟨S3328x1024, .f32⟩
  | .hbm, ⟨16, _⟩ => ⟨S3328x1024, .bf16⟩
  | .hbm, ⟨17, _⟩ => ⟨S1024, .f32⟩
  | .hbm, ⟨18, _⟩ => ⟨S1x1024, .f32⟩
  | .hbm, ⟨19, _⟩ => ⟨S1024x32768, .bf16⟩
  | .hbm, ⟨20, _⟩ => ⟨S1024x32768, .bf16⟩
  | .hbm, ⟨21, _⟩ => ⟨S1024x32768, .bf16⟩
  | .hbm, ⟨22, _⟩ => ⟨S256x32768, .bf16⟩
  | .hbm, ⟨23, _⟩ => ⟨S32768x1024, .bf16⟩
  | .hbm, ⟨24, _⟩ => ⟨S32768x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S3328x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S256x1024, .bf16⟩
  | .local _ .vmem, ⟨12, _⟩ => ⟨S256x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x512, .bf16⟩
  | .local _ .vmem, ⟨16, _⟩ => ⟨S1024x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16_0 : Ref sig .tc := ⟨.hbm, 19, rfl⟩
abbrev main_v16_1 : Ref sig .tc := ⟨.hbm, 20, rfl⟩
abbrev main_v16_2 : Ref sig .tc := ⟨.hbm, 21, rfl⟩
abbrev main_v16_3 : Ref sig .tc := ⟨.hbm, 22, rfl⟩
abbrev main_v16_4 : Ref sig .tc := ⟨.hbm, 23, rfl⟩
abbrev main_v16_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3328x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ProjRefIdeal.lean ====
abbrev S32768x1024 : Shape := ⟨2, ![32768, 1024]⟩
abbrev S1x1024 : Shape := ⟨2, ![1, 1024]⟩
abbrev S1x1024x6656 : Shape := ⟨3, ![1, 1024, 6656]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x6656 : Shape := ⟨2, ![1024, 6656]⟩
abbrev S32768x6656 : Shape := ⟨2, ![32768, 6656]⟩
abbrev S32768x256 : Shape := ⟨2, ![32768, 256]⟩
abbrev S32768x4x64 : Shape := ⟨3, ![32768, 4, 64]⟩
abbrev S32768x4x128 : Shape := ⟨3, ![32768, 4, 128]⟩
abbrev S32768x512 : Shape := ⟨2, ![32768, 512]⟩
abbrev S1024x32768 : Shape := ⟨2, ![1024, 32768]⟩
abbrev S256x32768 : Shape := ⟨2, ![256, 32768]⟩

abbrev nBuf : Space → Nat
  | .hbm => 47
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x6656, .f32⟩
  | .hbm, ⟨3, _⟩ => ⟨S1024, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S1024x6656, .f32⟩
  | .hbm, ⟨21, _⟩ => ⟨S32768x6656, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x256, .f32⟩
  | .hbm, ⟨27, _⟩ => ⟨S32768x256, .f32⟩
  | .hbm, ⟨28, _⟩ => ⟨S32768x4x64, .f32⟩
  | .hbm, ⟨29, _⟩ => ⟨S32768x4x128, .f32⟩
  | .hbm, ⟨30, _⟩ => ⟨S32768x512, .f32⟩
  | .hbm, ⟨31, _⟩ => ⟨S_, .f32⟩
  | .hbm, ⟨32, _⟩ => ⟨S32768x1024, .f32⟩
  | .hbm, ⟨33, _⟩ => ⟨S32768x1024, .f32⟩
  | .hbm, ⟨34, _⟩ => ⟨S1024x32768, .f32⟩
  | .hbm, ⟨35, _⟩ => ⟨S1024x32768, .bf16⟩
  | .hbm, ⟨36, _⟩ => ⟨S1024x32768, .f32⟩
  | .hbm, ⟨37, _⟩ => ⟨S1024x32768, .bf16⟩
  | .hbm, ⟨38, _⟩ => ⟨S_, .f32⟩
  | .hbm, ⟨39, _⟩ => ⟨S32768x1024, .f32⟩
  | .hbm, ⟨40, _⟩ => ⟨S32768x1024, .f32⟩
  | .hbm, ⟨41, _⟩ => ⟨S1024x32768, .f32⟩
  | .hbm, ⟨42, _⟩ => ⟨S1024x32768, .bf16⟩
  | .hbm, ⟨43, _⟩ => ⟨S256x32768, .f32⟩
  | .hbm, ⟨44, _⟩ => ⟨S256x32768, .bf16⟩
  | .hbm, ⟨45, _⟩ => ⟨S32768x1024, .bf16⟩
  | .hbm, ⟨46, _⟩ => ⟨S32768x512, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩

abbrev nD : Nat := 1
abbrev τ : Topo := Topo.v7x

variable {F : FTy → Type} [FloatOps F]
-- ==== Da.lean ====
abbrev S1024x32768 : Shape := ⟨2, ![1024, 32768]⟩
abbrev S32768x1024 : Shape := ⟨2, ![32768, 1024]⟩
abbrev S1x4x64 : Shape := ⟨3, ![1, 4, 64]⟩
abbrev S1x128 : Shape := ⟨2, ![1, 128]⟩
abbrev S8 : Shape := ⟨1, ![8]⟩
abbrev S15 : Shape := ⟨1, ![15]⟩
abbrev S15x1x1 : Shape := ⟨3, ![15, 1, 1]⟩
abbrev S_ : Shape := ⟨0, ![]⟩
abbrev S256 : Shape := ⟨1, ![256]⟩
abbrev S1x256x1 : Shape := ⟨3, ![1, 256, 1]⟩
abbrev S1x1x256 : Shape := ⟨3, ![1, 1, 256]⟩
abbrev S15x256x1 : Shape := ⟨3, ![15, 256, 1]⟩
abbrev S15x256x256 : Shape := ⟨3, ![15, 256, 256]⟩
abbrev S4x64 : Shape := ⟨2, ![4, 64]⟩
abbrev S128 : Shape := ⟨1, ![128]⟩
abbrev S128x2048 : Shape := ⟨2, ![128, 2048]⟩
abbrev S2048x128 : Shape := ⟨2, ![2048, 128]⟩
abbrev S2x2048x128 : Shape := ⟨3, ![2, 2048, 128]⟩
abbrev S144x2048 : Shape := ⟨2, ![144, 2048]⟩
abbrev S2x1x128 : Shape := ⟨3, ![2, 1, 128]⟩
abbrev S1 : Shape := ⟨1, ![1]⟩
abbrev S1x64 : Shape := ⟨2, ![1, 64]⟩
abbrev S1x1 : Shape := ⟨2, ![1, 1]⟩
abbrev S1x2048x128 : Shape := ⟨3, ![1, 2048, 128]⟩
abbrev S2048 : Shape := ⟨1, ![2048]⟩
abbrev S2048x1 : Shape := ⟨2, ![2048, 1]⟩
abbrev S1x1x128 : Shape := ⟨3, ![1, 1, 128]⟩
abbrev S16x2048 : Shape := ⟨2, ![16, 2048]⟩
abbrev S64x256 : Shape := ⟨2, ![64, 256]⟩
abbrev S128x256 : Shape := ⟨2, ![128, 256]⟩
abbrev S1x256 : Shape := ⟨2, ![1, 256]⟩
abbrev S1x256x256 : Shape := ⟨3, ![1, 256, 256]⟩
abbrev S256x256 : Shape := ⟨2, ![256, 256]⟩
abbrev S1x256x128 : Shape := ⟨3, ![1, 256, 128]⟩
abbrev S256x128 : Shape := ⟨2, ![256, 128]⟩
abbrev S144x256 : Shape := ⟨2, ![144, 256]⟩
abbrev S256x1 : Shape := ⟨2, ![256, 1]⟩
abbrev S1x1x1 : Shape := ⟨3, ![1, 1, 1]⟩
abbrev S2048x256 : Shape := ⟨2, ![2048, 256]⟩

abbrev nBuf : Space → Nat
  | .hbm => 30
  | .vmem => 14
  | .smem => 1
  | _ => 0

abbrev bufTy : (tb : Table) → Fin (tcTables nBuf tb) → BufTy
  | .hbm, ⟨0, _⟩ => ⟨S1024x32768, .bf16⟩
  | .hbm, ⟨1, _⟩ => ⟨S32768x1024, .bf16⟩
  | .hbm, ⟨2, _⟩ => ⟨S1024x32768, .bf16⟩
  | .hbm, ⟨3, _⟩ => ⟨S1x4x64, .f32⟩
  | .hbm, ⟨4, _⟩ => ⟨S1x128, .f32⟩
  | .hbm, ⟨5, _⟩ => ⟨S8, .f32⟩
  | .hbm, ⟨6, _⟩ => ⟨S15, .i32⟩
  | .hbm, ⟨7, _⟩ => ⟨S15x1x1, .i32⟩
  | .hbm, ⟨8, _⟩ => ⟨S_, .i32⟩
  | .hbm, ⟨9, _⟩ => ⟨S15x1x1, .i32⟩
  | .hbm, ⟨10, _⟩ => ⟨S15x1x1, .i32⟩
  | .hbm, ⟨11, _⟩ => ⟨S256, .i32⟩
  | .hbm, ⟨12, _⟩ => ⟨S1x256x1, .i32⟩
  | .hbm, ⟨13, _⟩ => ⟨S256, .i32⟩
  | .hbm, ⟨14, _⟩ => ⟨S1x1x256, .i32⟩
  | .hbm, ⟨15, _⟩ => ⟨S_, .i32⟩
  | .hbm, ⟨16, _⟩ => ⟨S15x1x1, .i32⟩
  | .hbm, ⟨17, _⟩ => ⟨S15x1x1, .i32⟩
  | .hbm, ⟨18, _⟩ => ⟨S15x256x1, .i32⟩
  | .hbm, ⟨19, _⟩ => ⟨S15x256x1, .i32⟩
  | .hbm, ⟨20, _⟩ => ⟨S15x256x1, .i32⟩
  | .hbm, ⟨21, _⟩ => ⟨S15x256x256, .i32⟩
  | .hbm, ⟨22, _⟩ => ⟨S15x256x256, .i32⟩
  | .hbm, ⟨23, _⟩ => ⟨S15x256x256, .i32⟩
  | .hbm, ⟨24, _⟩ => ⟨S15x256x256, .i32⟩
  | .hbm, ⟨25, _⟩ => ⟨S15x256x256, .f32⟩
  | .hbm, ⟨26, _⟩ => ⟨S4x64, .f32⟩
  | .hbm, ⟨27, _⟩ => ⟨S128, .f32⟩
  | .hbm, ⟨28, _⟩ => ⟨S1x128, .f32⟩
  | .hbm, ⟨29, _⟩ => ⟨S32768x1024, .bf16⟩
  | .local _ .vmem, ⟨0, _⟩ => ⟨S128x2048, .bf16⟩
  | .local _ .vmem, ⟨1, _⟩ => ⟨S128x2048, .bf16⟩
  | .local _ .vmem, ⟨2, _⟩ => ⟨S2048x128, .bf16⟩
  | .local _ .vmem, ⟨3, _⟩ => ⟨S2048x128, .bf16⟩
  | .local _ .vmem, ⟨4, _⟩ => ⟨S128x2048, .bf16⟩
  | .local _ .vmem, ⟨5, _⟩ => ⟨S128x2048, .bf16⟩
  | .local _ .vmem, ⟨6, _⟩ => ⟨S15x256x256, .f32⟩
  | .local _ .vmem, ⟨7, _⟩ => ⟨S4x64, .f32⟩
  | .local _ .vmem, ⟨8, _⟩ => ⟨S1x128, .f32⟩
  | .local _ .vmem, ⟨9, _⟩ => ⟨S2048x128, .bf16⟩
  | .local _ .vmem, ⟨10, _⟩ => ⟨S2048x128, .bf16⟩
  | .local _ .vmem, ⟨11, _⟩ => ⟨S2x2048x128, .bf16⟩
  | .local _ .vmem, ⟨12, _⟩ => ⟨S144x2048, .bf16⟩
  | .local _ .vmem, ⟨13, _⟩ => ⟨S2x1x128, .f32⟩
  | .local _ .smem, ⟨0, _⟩ => ⟨S8, .f32⟩
  | _, _ => ⟨S1024x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨3, ![16, 8, 1], ![false, false, false]⟩

def k0_off1 (i : grid0.Coords) : Fin 1 → Nat :=
  let arg1 : BitVec 32 := BitVec.ofNat 32 (i 1).val
  let v0 : Index := Scalar.indexCast arg1
  ![v0.toNat]
def k0_off2 (i : grid0.Coords) (c0_i32_120 : BitVec 32) (c0_i32_119 : BitVec 32) : Fin 3 → Nat :=
  let arg2 : BitVec 32 := BitVec.ofNat 32 (i 2).val
  let c8_i32 : BitVec 32 := 8#32
  let v329 : BitVec 32 := Scalar.muli arg2 c8_i32
  let v330 : BitVec 32 := Scalar.addi v329 c0_i32_119
  let v331 : BitVec 32 := Scalar.subi c0_i32_120 v330
  let c7_i32 : BitVec 32 := 7#32
  let v332 : BitVec 32 := Scalar.addi v331 c7_i32
  let v333 : Index := Scalar.indexCast v332
  let c0_121 : Index := 0#32
  let c0_122 : Index := 0#32
  ![v333.toNat, 0, 0]
def k0_off3 (i : grid0.Coords) (c0_i32_1444 : BitVec 32) (c0_i32_1443 : BitVec 32) : Fin 3 → Nat :=
  let arg2 : BitVec 32 := BitVec.ofNat 32 (i 2).val
  let c8_i32_1442 : BitVec 32 := 8#32
  let v2607 : BitVec 32 := Scalar.muli arg2 c8_i32_1442
  let v2608 : BitVec 32 := Scalar.addi v2607 c0_i32_1443
  let v2609 : BitVec 32 := Scalar.subi c0_i32_1444 v2608
  let c7_i32_1445 : BitVec 32 := 7#32
  let v2610 : BitVec 32 := Scalar.addi v2609 c7_i32_1445
  let v2611 : Index := Scalar.indexCast v2610
  let c0_1446 : Index := 0#32
  let c0_1447 : Index := 0#32
  ![v2611.toNat, 0, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S15x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Sw.lean ====
abbrev S1024x32768 : Shape := ⟨2, ![1024, 32768]⟩
abbrev S32768x512 : Shape := ⟨2, ![32768, 512]⟩
abbrev S256x32768 : Shape := ⟨2, ![256, 32768]⟩
abbrev S1x16 : Shape := ⟨2, ![1, 16]⟩
abbrev S16 : Shape := ⟨1, ![16]⟩
abbrev S_ : Shape := ⟨0, ![]⟩
abbrev S3 : Shape := ⟨1, ![3]⟩
abbrev S3x1x1 : Shape := ⟨3, ![3, 1, 1]⟩
abbrev S384 : Shape := ⟨1, ![384]⟩
abbrev S1x384x1 : Shape := ⟨3, ![1, 384, 1]⟩
abbrev S128 : Shape := ⟨1, ![128]⟩
abbrev S1x1x128 : Shape := ⟨3, ![1, 1, 128]⟩
abbrev S3x1x128 : Shape := ⟨3, ![3, 1, 128]⟩
abbrev S3x384x128 : Shape := ⟨3, ![3, 384, 128]⟩
abbrev S4x1x1x4x1 : Shape := ⟨5, ![4, 1, 1, 4, 1]⟩
abbrev S1x3x384x1x128 : Shape := ⟨5, ![1, 3, 384, 1, 128]⟩
abbrev S4x3x384x4x128 : Shape := ⟨5, ![4, 3, 384, 4, 128]⟩
abbrev S4x3x384x512 : Shape := ⟨4, ![4, 3, 384, 512]⟩
abbrev S32768x1024 : Shape := ⟨2, ![32768, 1024]⟩
abbrev S256x2048 : Shape := ⟨2, ![256, 2048]⟩
abbrev S2048x128 : Shape := ⟨2, ![2048, 128]⟩
abbrev S64x2048 : Shape := ⟨2, ![64, 2048]⟩
abbrev S1x3x384x512 : Shape := ⟨4, ![1, 3, 384, 512]⟩
abbrev S2048x256 : Shape := ⟨2, ![2048, 256]⟩
abbrev S16x80x128 : Shape := ⟨3, ![16, 80, 128]⟩
abbrev S1x128 : Shape := ⟨2, ![1, 128]⟩
abbrev S1 : Shape := ⟨1, ![1]⟩
abbrev S1x512 : Shape := ⟨2, ![1, 512]⟩
abbrev S2048 : Shape := ⟨1, ![2048]⟩
abbrev S2048x1 : Shape := ⟨2, ![2048, 1]⟩
abbrev S1x1 : Shape := ⟨2, ![1, 1]⟩
abbrev S16x128 : Shape := ⟨2, ![16, 128]⟩
abbrev S64x128 : Shape := ⟨2, ![64, 128]⟩
abbrev S1x64x128 : Shape := ⟨3, ![1, 64, 128]⟩
abbrev S1x16x128 : Shape := ⟨3, ![1, 16, 128]⟩
abbrev S64x512 : Shape := ⟨2, ![64, 512]⟩
abbrev S256x128 : Shape := ⟨2, ![256, 128]⟩
abbrev S512 : Shape := ⟨1, ![512]⟩
abbrev S128x512 : Shape := ⟨2, ![128, 512]⟩
abbrev S384x128 : Shape := ⟨2, ![384, 128]⟩
abbrev S384x512 : Shape := ⟨2, ![384, 512]⟩
abbrev S1x1x384x512 : Shape := ⟨4, ![1, 1, 384, 512]⟩
abbrev S1x80x128 : Shape := ⟨3, ![1, 80, 128]⟩
abbrev S80x128 : Shape := ⟨2, ![80, 128]⟩
abbrev S80x384 : Shape := ⟨2, ![80, 384]⟩
abbrev S80x512 : Shape := ⟨2, ![80, 512]⟩
abbrev S128x128 : Shape := ⟨2, ![128, 128]⟩
abbrev S1x1x512 : Shape := ⟨3, ![1, 1, 512]⟩
abbrev S1x1x1 : Shape := ⟨3, ![1, 1, 1]⟩

abbrev nBuf : Space → Nat
  | .hbm => 55
  | .vmem => 13
  | .smem => 1
  | _ => 0

abbrev bufTy : (tb : Table) → Fin (tcTables nBuf tb) → BufTy
  | .hbm, ⟨0, _⟩ => ⟨S1024x32768, .bf16⟩
  | .hbm, ⟨1, _⟩ => ⟨S32768x512, .bf16⟩
  | .hbm, ⟨2, _⟩ => ⟨S256x32768, .bf16⟩
  | .hbm, ⟨3, _⟩ => ⟨S1x16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S3, .i32⟩
  | .hbm, ⟨18, _⟩ => ⟨S3x1x1, .i32⟩
  | .hbm, ⟨19, _⟩ => ⟨S_, .i32⟩
  | .hbm, ⟨20, _⟩ => ⟨S3x1x1, .i32⟩
  | .hbm, ⟨21, _⟩ => ⟨S3x1x1, .i32⟩
  | .hbm, ⟨22, _⟩ => ⟨S384, .i32⟩
  | .hbm, ⟨23, _⟩ => ⟨S1x384x1, .i32⟩
  | .hbm, ⟨24, _⟩ => ⟨S128, .i32⟩
  | .hbm, ⟨25, _⟩ => ⟨S1x1x128, .i32⟩
  | .hbm, ⟨26, _⟩ => ⟨S3x1x128, .i32⟩
  | .hbm, ⟨27, _⟩ => ⟨S3x1x128, .i32⟩
  | .hbm, ⟨28, _⟩ => ⟨S3x1x128, .i32⟩
  | .hbm, ⟨29, _⟩ => ⟨S3x384x128, .i32⟩
  | .hbm, ⟨30, _⟩ => ⟨S3x384x128, .i32⟩
  | .hbm, ⟨31, _⟩ => ⟨S3x384x128, .i32⟩
  | .hbm, ⟨32, _⟩ => ⟨S3x384x128, .i32⟩
  | .hbm, ⟨33, _⟩ => ⟨S_, .i32⟩
  | .hbm, ⟨34, _⟩ => ⟨S3x384x128, .i32⟩
  | .hbm, ⟨35, _⟩ => ⟨S3x384x128, .i1⟩
  | .hbm, ⟨36, _⟩ => ⟨S3x384x128, .f32⟩
  | .hbm, ⟨37, _⟩ => ⟨S_, .f32⟩
  | .hbm, ⟨38, _⟩ => ⟨S_, .f32⟩
  | .hbm, ⟨39, _⟩ => ⟨S3x384x128, .f32⟩
  | .hbm, ⟨40, _⟩ => ⟨S3x384x128, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S4x1x1x4x1, .f32⟩
  | .hbm, ⟨45, _⟩ => ⟨S1x3x384x1x128, .f32⟩
  | .hbm, ⟨46, _⟩ => ⟨S4x3x384x4x128, .f32⟩
  | .hbm, ⟨47, _⟩ => ⟨S4x3x384x4x128, .f32⟩
  | .hbm, ⟨48, _⟩ => ⟨S4x3x384x4x128, .f32⟩
  | .hbm, ⟨49, _⟩ => ⟨S_, .f32⟩
  | .hbm, ⟨50, _⟩ => ⟨S4x3x384x4x128, .f32⟩
  | .hbm, ⟨51, _⟩ => ⟨S4x3x384x4x128, .f32⟩
  | .hbm, ⟨52, _⟩ => ⟨S4x3x384x512, .f32⟩
  | .hbm, ⟨53, _⟩ => ⟨S16, .f32⟩
  | .hbm, ⟨54, _⟩ => ⟨S32768x1024, .bf16⟩
  | .local _ .vmem, ⟨0, _⟩ => ⟨S256x2048, .bf16⟩
  | .local _ .vmem, ⟨1, _⟩ => ⟨S256x2048, .bf16⟩
  | .local _ .vmem, ⟨2, _⟩ => ⟨S2048x128, .bf16⟩
  | .local _ .vmem, ⟨3, _⟩ => ⟨S2048x128, .bf16⟩
  | .local _ .vmem, ⟨4, _⟩ => ⟨S64x2048, .bf16⟩
  | .local _ .vmem, ⟨5, _⟩ => ⟨S64x2048, .bf16⟩
  | .local _ .vmem, ⟨6, _⟩ => ⟨S1x3x384x512, .f32⟩
  | .local _ .vmem, ⟨7, _⟩ => ⟨S1x3x384x512, .f32⟩
  | .local _ .vmem, ⟨8, _⟩ => ⟨S2048x256, .bf16⟩
  | .local _ .vmem, ⟨9, _⟩ => ⟨S2048x256, .bf16⟩
  | .local _ .vmem, ⟨10, _⟩ => ⟨S2048x128, .bf16⟩
  | .local _ .vmem, ⟨11, _⟩ => ⟨S16x80x128, .bf16⟩
  | .local _ .vmem, ⟨12, _⟩ => ⟨S1x128, .f32⟩
  | .local _ .smem, ⟨0, _⟩ => ⟨S16, .f32⟩
  | _, _ => ⟨S1024x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![16, 4, 1], ![false, false, false]⟩

def k0_off1 (i : grid0.Coords) (c0_i32 : BitVec 32) : Fin 1 → Nat :=
  let arg1 : BitVec 32 := BitVec.ofNat 32 (i 1).val
  let c4_i32 : BitVec 32 := 4#32
  let v0 : BitVec 32 := Scalar.muli arg1 c4_i32
  let v1 : BitVec 32 := Scalar.addi v0 c0_i32
  let v2 : Index := Scalar.indexCast v1
  ![v2.toNat]
def k0_mult1 (i : grid0.Coords) : BitVec 32 :=
  let c13_i32 : BitVec 32 := 13#32
  let c0_i32_10 : BitVec 32 := 0#32
  let arg2 : BitVec 32 := BitVec.ofNat 32 (i 2).val
  let c16_i32 : BitVec 32 := 16#32
  let v29 : BitVec 32 := Scalar.muli arg2 c16_i32
  let c0_i32_8 : BitVec 32 := 0#32
  let v30 : BitVec 32 := Scalar.addi v29 c0_i32_8
  let c1_i32_9 : BitVec 32 := 1#32
  let v31 : BitVec 32 := Scalar.subi v30 c1_i32_9
  let v32 : BitVec 32 := Scalar.maxsi c0_i32_10 v31
  let v33 : BitVec 32 := Scalar.minsi c13_i32 v32
  let c128_i32 : BitVec 32 := 128#32
  let v504 : BitVec 32 := Scalar.muli v33 c128_i32
  v504
def k0_off2 (i : grid0.Coords) (c0_i32_8 : BitVec 32) : Fin 2 → Nat :=
  let c13_i32 : BitVec 32 := 13#32
  let c0_i32_10 : BitVec 32 := 0#32
  let arg2 : BitVec 32 := BitVec.ofNat 32 (i 2).val
  let c16_i32 : BitVec 32 := 16#32
  let v29 : BitVec 32 := Scalar.muli arg2 c16_i32
  let v30 : BitVec 32 := Scalar.addi v29 c0_i32_8
  let c1_i32_9 : BitVec 32 := 1#32
  let v31 : BitVec 32 := Scalar.subi v30 c1_i32_9
  let v32 : BitVec 32 := Scalar.maxsi c0_i32_10 v31
  let v33 : BitVec 32 := Scalar.minsi c13_i32 v32
  let c128_i32 : BitVec 32 := 128#32
  let v504 : BitVec 32 := Scalar.muli v33 c128_i32
  let v505 : BitVec 32 := v504
  let v506 : Index := Scalar.indexCast v505
  let c0_257 : Index := 0#32
  ![v506.toNat, 0]
def k0_off3 (i : grid0.Coords) (c0_i32_8 : BitVec 32) : Fin 4 → Nat :=
  let c0_259 : Index := 0#32
  let arg2 : BitVec 32 := BitVec.ofNat 32 (i 2).val
  let c16_i32 : BitVec 32 := 16#32
  let v29 : BitVec 32 := Scalar.muli arg2 c16_i32
  let v30 : BitVec 32 := Scalar.addi v29 c0_i32_8
  let c0_i32_11 : BitVec 32 := 0#32
  let v34 : BitVec 1 := Scalar.cmpi .eq v30 c0_i32_11
  let c0_i32_14 : BitVec 32 := 0#32
  let c15_i32 : BitVec 32 := 15#32
  let v35 : BitVec 1 := Scalar.cmpi .eq v30 c15_i32
  let c2_i32_12 : BitVec 32 := 2#32
  let c1_i32_13 : BitVec 32 := 1#32
  let v36 : BitVec 32 := Scalar.select v35 c2_i32_12 c1_i32_13
  let v37 : BitVec 32 := Scalar.select v34 c0_i32_14 v36
  let v509 : Index := Scalar.indexCast v37
  let c0_260 : Index := 0#32
  let c0_261 : Index := 0#32
  ![0, v509.toNat, 0, 0]
def k0_mult2 (i : grid0.Coords) : BitVec 32 :=
  let c13_i32_20 : BitVec 32 := 13#32
  let c0_i32_19 : BitVec 32 := 0#32
  let arg2 : BitVec 32 := BitVec.ofNat 32 (i 2).val
  let c16_i32_16 : BitVec 32 := 16#32
  let v44 : BitVec 32 := Scalar.muli arg2 c16_i32_16
  let c1_i32_17 : BitVec 32 := 1#32
  let v45 : BitVec 32 := Scalar.addi v44 c1_i32_17
  let c1_i32_18 : BitVec 32 := 1#32
  let v46 : BitVec 32 := Scalar.subi v45 c1_i32_18
  let v47 : BitVec 32 := Scalar.maxsi c0_i32_19 v46
  let v48 : BitVec 32 := Scalar.minsi c13_i32_20 v47
  let c128_i32_267 : BitVec 32 := 128#32
  let v542 : BitVec 32 := Scalar.muli v48 c128_i32_267
  v542
def k0_off4 (i : grid0.Coords) (c0_i32_8 : BitVec 32) : Fin 3 → Nat :=
  let c13_i32 : BitVec 32 := 13#32
  let c0_i32_10 : BitVec 32 := 0#32
  let arg2 : BitVec 32 := BitVec.ofNat 32 (i 2).val
  let c16_i32 : BitVec 32 := 16#32
  let v29 : BitVec 32 := Scalar.muli arg2 c16_i32
  let v30 : BitVec 32 := Scalar.addi v29 c0_i32_8
  let c1_i32_9 : BitVec 32 := 1#32
  let v31 : BitVec 32 := Scalar.subi v30 c1_i32_9
  let v32 : BitVec 32 := Scalar.maxsi c0_i32_10 v31
  let v33 : BitVec 32 := Scalar.minsi c13_i32 v32
  let v553 : Index := Scalar.indexCast v33
  let c0_273 : Index := 0#32
  let c0_274 : Index := 0#32
  ![v553.toNat, 0, 0]
def k0_off5 (i : grid0.Coords) (c0_i32_8 : BitVec 32) (c1_i32_275 : BitVec 32) : Fin 3 → Nat :=
  let c13_i32 : BitVec 32 := 13#32
  let c0_i32_10 : BitVec 32 := 0#32
  let arg2 : BitVec 32 := BitVec.ofNat 32 (i 2).val
  let c16_i32 : BitVec 32 := 16#32
  let v29 : BitVec 32 := Scalar.muli arg2 c16_i32
  let v30 : BitVec 32 := Scalar.addi v29 c0_i32_8
  let c1_i32_9 : BitVec 32 := 1#32
  let v31 : BitVec 32 := Scalar.subi v30 c1_i32_9
  let v32 : BitVec 32 := Scalar.maxsi c0_i32_10 v31
  let v33 : BitVec 32 := Scalar.minsi c13_i32 v32
  let v556 : BitVec 32 := Scalar.addi v33 c1_i32_275
  let v557 : Index := Scalar.indexCast v556
  let c0_276 : Index := 0#32
  let c0_277 : Index := 0#32
  ![v557.toNat, 0, 0]
def k0_mult3 (i : grid0.Coords) : BitVec 32 :=
  let c13_i32_31 : BitVec 32 := 13#32
  let c0_i32_30 : BitVec 32 := 0#32
  let arg2 : BitVec 32 := BitVec.ofNat 32 (i 2).val
  let c16_i32_27 : BitVec 32 := 16#32
  let v59 : BitVec 32 := Scalar.muli arg2 c16_i32_27
  let c2_i32_28 : BitVec 32 := 2#32
  let v60 : BitVec 32 := Scalar.addi v59 c2_i32_28
  let c1_i32_29 : BitVec 32 := 1#32
  let v61 : BitVec 32 := Scalar.subi v60 c1_i32_29
  let v62 : BitVec 32 := Scalar.maxsi c0_i32_30 v61
  let v63 : BitVec 32 := Scalar.minsi c13_i32_31 v62
  let c128_i32_292 : BitVec 32 := 128#32
  let v614 : BitVec 32 := Scalar.muli v63 c128_i32_292
  v614
def k0_mult4 (i : grid0.Coords) : BitVec 32 :=
  let c13_i32_42 : BitVec 32 := 13#32
  let c0_i32_41 : BitVec 32 := 0#32
  let arg2 : BitVec 32 := BitVec.ofNat 32 (i 2).val
  let c16_i32_38 : BitVec 32 := 16#32
  let v74 : BitVec 32 := Scalar.muli arg2 c16_i32_38
  let c3_i32_39 : BitVec 32 := 3#32
  let v75 : BitVec 32 := Scalar.addi v74 c3_i32_39
  let c1_i32_40 : BitVec 32 := 1#32
  let v76 : BitVec 32 := Scalar.subi v75 c1_i32_40
  let v77 : BitVec 32 := Scalar.maxsi c0_i32_41 v76
  let v78 : BitVec 32 := Scalar.minsi c13_i32_42 v77
  let c128_i32_317 : BitVec 32 := 128#32
  let v686 : BitVec 32 := Scalar.muli v78 c128_i32_317
  v686
def k0_mult5 (i : grid0.Coords) : BitVec 32 :=
  let c13_i32_53 : BitVec 32 := 13#32
  let c0_i32_52 : BitVec 32 := 0#32
  let arg2 : BitVec 32 := BitVec.ofNat 32 (i 2).val
  let c16_i32_49 : BitVec 32 := 16#32
  let v89 : BitVec 32 := Scalar.muli arg2 c16_i32_49
  let c4_i32_50 : BitVec 32 := 4#32
  let v90 : BitVec 32 := Scalar.addi v89 c4_i32_50
  let c1_i32_51 : BitVec 32 := 1#32
  let v91 : BitVec 32 := Scalar.subi v90 c1_i32_51
  let v92 : BitVec 32 := Scalar.maxsi c0_i32_52 v91
  let v93 : BitVec 32 := Scalar.minsi c13_i32_53 v92
  let c128_i32_342 : BitVec 32 := 128#32
  let v758 : BitVec 32 := Scalar.muli v93 c128_i32_342
  v758
def k0_mult6 (i : grid0.Coords) : BitVec 32 :=
  let c13_i32_63 : BitVec 32 := 13#32
  let c0_i32_62 : BitVec 32 := 0#32
  let arg2 : BitVec 32 := BitVec.ofNat 32 (i 2).val
  let c16_i32_60 : BitVec 32 := 16#32
  let v104 : BitVec 32 := Scalar.muli arg2 c16_i32_60
  let c5_i32 : BitVec 32 := 5#32
  let v105 : BitVec 32 := Scalar.addi v104 c5_i32
  let c1_i32_61 : BitVec 32 := 1#32
  let v106 : BitVec 32 := Scalar.subi v105 c1_i32_61
  let v107 : BitVec 32 := Scalar.maxsi c0_i32_62 v106
  let v108 : BitVec 32 := Scalar.minsi c13_i32_63 v107
  let c128_i32_367 : BitVec 32 := 128#32
  let v830 : BitVec 32 := Scalar.muli v108 c128_i32_367
  v830
def k0_mult7 (i : grid0.Coords) : BitVec 32 :=
  let c13_i32_73 : BitVec 32 := 13#32
  let c0_i32_72 : BitVec 32 := 0#32
  let arg2 : BitVec 32 := BitVec.ofNat 32 (i 2).val
  let c16_i32_70 : BitVec 32 := 16#32
  let v119 : BitVec 32 := Scalar.muli arg2 c16_i32_70
  let c6_i32 : BitVec 32 := 6#32
  let v120 : BitVec 32 := Scalar.addi v119 c6_i32
  let c1_i32_71 : BitVec 32 := 1#32
  let v121 : BitVec 32 := Scalar.subi v120 c1_i32_71
  let v122 : BitVec 32 := Scalar.maxsi c0_i32_72 v121
  let v123 : BitVec 32 := Scalar.minsi c13_i32_73 v122
  let c128_i32_392 : BitVec 32 := 128#32
  let v902 : BitVec 32 := Scalar.muli v123 c128_i32_392
  v902
def k0_mult8 (i : grid0.Coords) : BitVec 32 :=
  let c13_i32_83 : BitVec 32 := 13#32
  let c0_i32_82 : BitVec 32 := 0#32
  let arg2 : BitVec 32 := BitVec.ofNat 32 (i 2).val
  let c16_i32_80 : BitVec 32 := 16#32
  let v134 : BitVec 32 := Scalar.muli arg2 c16_i32_80
  let c7_i32 : BitVec 32 := 7#32
  let v135 : BitVec 32 := Scalar.addi v134 c7_i32
  let c1_i32_81 : BitVec 32 := 1#32
  let v136 : BitVec 32 := Scalar.subi v135 c1_i32_81
  let v137 : BitVec 32 := Scalar.maxsi c0_i32_82 v136
  let v138 : BitVec 32 := Scalar.minsi c13_i32_83 v137
  let c128_i32_417 : BitVec 32 := 128#32
  let v974 : BitVec 32 := Scalar.muli v138 c128_i32_417
  v974
def k0_mult9 (i : grid0.Coords) : BitVec 32 :=
  let c13_i32_93 : BitVec 32 := 13#32
  let c0_i32_92 : BitVec 32 := 0#32
  let arg2 : BitVec 32 := BitVec.ofNat 32 (i 2).val
  let c16_i32_90 : BitVec 32 := 16#32
  let v149 : BitVec 32 := Scalar.muli arg2 c16_i32_90
  let c8_i32 : BitVec 32 := 8#32
  let v150 : BitVec 32 := Scalar.addi v149 c8_i32
  let c1_i32_91 : BitVec 32 := 1#32
  let v151 : BitVec 32 := Scalar.subi v150 c1_i32_91
  let v152 : BitVec 32 := Scalar.maxsi c0_i32_92 v151
  let v153 : BitVec 32 := Scalar.minsi c13_i32_93 v152
  let c128_i32_442 : BitVec 32 := 128#32
  let v1046 : BitVec 32 := Scalar.muli v153 c128_i32_442
  v1046
def k0_mult10 (i : grid0.Coords) : BitVec 32 :=
  let c13_i32_103 : BitVec 32 := 13#32
  let c0_i32_102 : BitVec 32 := 0#32
  let arg2 : BitVec 32 := BitVec.ofNat 32 (i 2).val
  let c16_i32_100 : BitVec 32 := 16#32
  let v164 : BitVec 32 := Scalar.muli arg2 c16_i32_100
  let c9_i32 : BitVec 32 := 9#32
  let v165 : BitVec 32 := Scalar.addi v164 c9_i32
  let c1_i32_101 : BitVec 32 := 1#32
  let v166 : BitVec 32 := Scalar.subi v165 c1_i32_101
  let v167 : BitVec 32 := Scalar.maxsi c0_i32_102 v166
  let v168 : BitVec 32 := Scalar.minsi c13_i32_103 v167
  let c128_i32_467 : BitVec 32 := 128#32
  let v1118 : BitVec 32 := Scalar.muli v168 c128_i32_467
  v1118
def k0_mult11 (i : grid0.Coords) : BitVec 32 :=
  let c13_i32_113 : BitVec 32 := 13#32
  let c0_i32_112 : BitVec 32 := 0#32
  let arg2 : BitVec 32 := BitVec.ofNat 32 (i 2).val
  let c16_i32_110 : BitVec 32 := 16#32
  let v179 : BitVec 32 := Scalar.muli arg2 c16_i32_110
  let c10_i32 : BitVec 32 := 10#32
  let v180 : BitVec 32 := Scalar.addi v179 c10_i32
  let c1_i32_111 : BitVec 32 := 1#32
  let v181 : BitVec 32 := Scalar.subi v180 c1_i32_111
  let v182 : BitVec 32 := Scalar.maxsi c0_i32_112 v181
  let v183 : BitVec 32 := Scalar.minsi c13_i32_113 v182
  let c128_i32_492 : BitVec 32 := 128#32
  let v1190 : BitVec 32 := Scalar.muli v183 c128_i32_492
  v1190
def k0_mult12 (i : grid0.Coords) : BitVec 32 :=
  let c13_i32_123 : BitVec 32 := 13#32
  let c0_i32_122 : BitVec 32 := 0#32
  let arg2 : BitVec 32 := BitVec.ofNat 32 (i 2).val
  let c16_i32_120 : BitVec 32 := 16#32
  let v194 : BitVec 32 := Scalar.muli arg2 c16_i32_120
  let c11_i32 : BitVec 32 := 11#32
  let v195 : BitVec 32 := Scalar.addi v194 c11_i32
  let c1_i32_121 : BitVec 32 := 1#32
  let v196 : BitVec 32 := Scalar.subi v195 c1_i32_121
  let v197 : BitVec 32 := Scalar.maxsi c0_i32_122 v196
  let v198 : BitVec 32 := Scalar.minsi c13_i32_123 v197
  let c128_i32_517 : BitVec 32 := 128#32
  let v1262 : BitVec 32 := Scalar.muli v198 c128_i32_517
  v1262
def k0_mult13 (i : grid0.Coords) : BitVec 32 :=
  let c13_i32_133 : BitVec 32 := 13#32
  let c0_i32_132 : BitVec 32 := 0#32
  let arg2 : BitVec 32 := BitVec.ofNat 32 (i 2).val
  let c16_i32_130 : BitVec 32 := 16#32
  let v209 : BitVec 32 := Scalar.muli arg2 c16_i32_130
  let c12_i32 : BitVec 32 := 12#32
  let v210 : BitVec 32 := Scalar.addi v209 c12_i32
  let c1_i32_131 : BitVec 32 := 1#32
  let v211 : BitVec 32 := Scalar.subi v210 c1_i32_131
  let v212 : BitVec 32 := Scalar.maxsi c0_i32_132 v211
  let v213 : BitVec 32 := Scalar.minsi c13_i32_133 v212
  let c128_i32_542 : BitVec 32 := 128#32
  let v1334 : BitVec 32 := Scalar.muli v213 c128_i32_542
  v1334
def k0_mult14 (i : grid0.Coords) : BitVec 32 :=
  let c13_i32_144 : BitVec 32 := 13#32
  let c0_i32_143 : BitVec 32 := 0#32
  let arg2 : BitVec 32 := BitVec.ofNat 32 (i 2).val
  let c16_i32_140 : BitVec 32 := 16#32
  let v224 : BitVec 32 := Scalar.muli arg2 c16_i32_140
  let c13_i32_141 : BitVec 32 := 13#32
  let v225 : BitVec 32 := Scalar.addi v224 c13_i32_141
  let c1_i32_142 : BitVec 32 := 1#32
  let v226 : BitVec 32 := Scalar.subi v225 c1_i32_142
  let v227 : BitVec 32 := Scalar.maxsi c0_i32_143 v226
  let v228 : BitVec 32 := Scalar.minsi c13_i32_144 v227
  let c128_i32_567 : BitVec 32 := 128#32
  let v1406 : BitVec 32 := Scalar.muli v228 c128_i32_567
  v1406
def k0_mult15 (i : grid0.Coords) : BitVec 32 :=
  let c13_i32_154 : BitVec 32 := 13#32
  let c0_i32_153 : BitVec 32 := 0#32
  let arg2 : BitVec 32 := BitVec.ofNat 32 (i 2).val
  let c16_i32_151 : BitVec 32 := 16#32
  let v239 : BitVec 32 := Scalar.muli arg2 c16_i32_151
  let c14_i32 : BitVec 32 := 14#32
  let v240 : BitVec 32 := Scalar.addi v239 c14_i32
  let c1_i32_152 : BitVec 32 := 1#32
  let v241 : BitVec 32 := Scalar.subi v240 c1_i32_152
  let v242 : BitVec 32 := Scalar.maxsi c0_i32_153 v241
  let v243 : BitVec 32 := Scalar.minsi c13_i32_154 v242
  let c128_i32_592 : BitVec 32 := 128#32
  let v1478 : BitVec 32 := Scalar.muli v243 c128_i32_592
  v1478
def k0_mult16 (i : grid0.Coords) : BitVec 32 :=
  let c13_i32_165 : BitVec 32 := 13#32
  let c0_i32_164 : BitVec 32 := 0#32
  let arg2 : BitVec 32 := BitVec.ofNat 32 (i 2).val
  let c16_i32_161 : BitVec 32 := 16#32
  let v254 : BitVec 32 := Scalar.muli arg2 c16_i32_161
  let c15_i32_162 : BitVec 32 := 15#32
  let v255 : BitVec 32 := Scalar.addi v254 c15_i32_162
  let c1_i32_163 : BitVec 32 := 1#32
  let v256 : BitVec 32 := Scalar.subi v255 c1_i32_163
  let v257 : BitVec 32 := Scalar.maxsi c0_i32_164 v256
  let v258 : BitVec 32 := Scalar.minsi c13_i32_165 v257
  let c128_i32_617 : BitVec 32 := 128#32
  let v1550 : BitVec 32 := Scalar.muli v258 c128_i32_617
  v1550
def k0_mult17 (i : grid0.Coords) : BitVec 32 :=
  let c13_i32 : BitVec 32 := 13#32
  let c0_i32_10 : BitVec 32 := 0#32
  let arg2 : BitVec 32 := BitVec.ofNat 32 (i 2).val
  let c16_i32 : BitVec 32 := 16#32
  let v29 : BitVec 32 := Scalar.muli arg2 c16_i32
  let c0_i32_8 : BitVec 32 := 0#32
  let v30 : BitVec 32 := Scalar.addi v29 c0_i32_8
  let c1_i32_9 : BitVec 32 := 1#32
  let v31 : BitVec 32 := Scalar.subi v30 c1_i32_9
  let v32 : BitVec 32 := Scalar.maxsi c0_i32_10 v31
  let v33 : BitVec 32 := Scalar.minsi c13_i32 v32
  let c128_i32_655 : BitVec 32 := 128#32
  let v1653 : BitVec 32 := Scalar.muli v33 c128_i32_655
  v1653
def k0_off6 (i : grid0.Coords) (c0_i32_8 : BitVec 32) : Fin 2 → Nat :=
  let c13_i32 : BitVec 32 := 13#32
  let c0_i32_10 : BitVec 32 := 0#32
  let arg2 : BitVec 32 := BitVec.ofNat 32 (i 2).val
  let c16_i32 : BitVec 32 := 16#32
  let v29 : BitVec 32 := Scalar.muli arg2 c16_i32
  let v30 : BitVec 32 := Scalar.addi v29 c0_i32_8
  let c1_i32_9 : BitVec 32 := 1#32
  let v31 : BitVec 32 := Scalar.subi v30 c1_i32_9
  let v32 : BitVec 32 := Scalar.maxsi c0_i32_10 v31
  let v33 : BitVec 32 := Scalar.minsi c13_i32 v32
  let c128_i32_655 : BitVec 32 := 128#32
  let v1653 : BitVec 32 := Scalar.muli v33 c128_i32_655
  let v1654 : BitVec 32 := v1653
  let v1655 : Index := Scalar.indexCast v1654
  let c0_656 : Index := 0#32
  ![v1655.toNat, 0]
def k0_off7 (i : grid0.Coords) (c0_i32_8 : BitVec 32) : Fin 4 → Nat :=
  let c0_658 : Index := 0#32
  let arg2 : BitVec 32 := BitVec.ofNat 32 (i 2).val
  let c16_i32 : BitVec 32 := 16#32
  let v29 : BitVec 32 := Scalar.muli arg2 c16_i32
  let v30 : BitVec 32 := Scalar.addi v29 c0_i32_8
  let c0_i32_11 : BitVec 32 := 0#32
  let v34 : BitVec 1 := Scalar.cmpi .eq v30 c0_i32_11
  let c0_i32_14 : BitVec 32 := 0#32
  let c15_i32 : BitVec 32 := 15#32
  let v35 : BitVec 1 := Scalar.cmpi .eq v30 c15_i32
  let c2_i32_12 : BitVec 32 := 2#32
  let c1_i32_13 : BitVec 32 := 1#32
  let v36 : BitVec 32 := Scalar.select v35 c2_i32_12 c1_i32_13
  let v37 : BitVec 32 := Scalar.select v34 c0_i32_14 v36
  let v1658 : Index := Scalar.indexCast v37
  let c0_659 : Index := 0#32
  let c0_660 : Index := 0#32
  ![0, v1658.toNat, 0, 0]
def k0_mult18 (i : grid0.Coords) : BitVec 32 :=
  let c13_i32_20 : BitVec 32 := 13#32
  let c0_i32_19 : BitVec 32 := 0#32
  let arg2 : BitVec 32 := BitVec.ofNat 32 (i 2).val
  let c16_i32_16 : BitVec 32 := 16#32
  let v44 : BitVec 32 := Scalar.muli arg2 c16_i32_16
  let c1_i32_17 : BitVec 32 := 1#32
  let v45 : BitVec 32 := Scalar.addi v44 c1_i32_17
  let c1_i32_18 : BitVec 32 := 1#32
  let v46 : BitVec 32 := Scalar.subi v45 c1_i32_18
  let v47 : BitVec 32 := Scalar.maxsi c0_i32_19 v46
  let v48 : BitVec 32 := Scalar.minsi c13_i32_20 v47
  let c128_i32_663 : BitVec 32 := 128#32
  let v1667 : BitVec 32 := Scalar.muli v48 c128_i32_663
  v1667
def k0_mult19 (i : grid0.Coords) : BitVec 32 :=
  let c13_i32_31 : BitVec 32 := 13#32
  let c0_i32_30 : BitVec 32 := 0#32
  let arg2 : BitVec 32 := BitVec.ofNat 32 (i 2).val
  let c16_i32_27 : BitVec 32 := 16#32
  let v59 : BitVec 32 := Scalar.muli arg2 c16_i32_27
  let c2_i32_28 : BitVec 32 := 2#32
  let v60 : BitVec 32 := Scalar.addi v59 c2_i32_28
  let c1_i32_29 : BitVec 32 := 1#32
  let v61 : BitVec 32 := Scalar.subi v60 c1_i32_29
  let v62 : BitVec 32 := Scalar.maxsi c0_i32_30 v61
  let v63 : BitVec 32 := Scalar.minsi c13_i32_31 v62
  let c128_i32_671 : BitVec 32 := 128#32
  let v1681 : BitVec 32 := Scalar.muli v63 c128_i32_671
  v1681
def k0_mult20 (i : grid0.Coords) : BitVec 32 :=
  let c13_i32_42 : BitVec 32 := 13#32
  let c0_i32_41 : BitVec 32 := 0#32
  let arg2 : BitVec 32 := BitVec.ofNat 32 (i 2).val
  let c16_i32_38 : BitVec 32 := 16#32
  let v74 : BitVec 32 := Scalar.muli arg2 c16_i32_38
  let c3_i32_39 : BitVec 32 := 3#32
  let v75 : BitVec 32 := Scalar.addi v74 c3_i32_39
  let c1_i32_40 : BitVec 32 := 1#32
  let v76 : BitVec 32 := Scalar.subi v75 c1_i32_40
  let v77 : BitVec 32 := Scalar.maxsi c0_i32_41 v76
  let v78 : BitVec 32 := Scalar.minsi c13_i32_42 v77
  let c128_i32_679 : BitVec 32 := 128#32
  let v1695 : BitVec 32 := Scalar.muli v78 c128_i32_679
  v1695
def k0_mult21 (i : grid0.Coords) : BitVec 32 :=
  let c13_i32_53 : BitVec 32 := 13#32
  let c0_i32_52 : BitVec 32 := 0#32
  let arg2 : BitVec 32 := BitVec.ofNat 32 (i 2).val
  let c16_i32_49 : BitVec 32 := 16#32
  let v89 : BitVec 32 := Scalar.muli arg2 c16_i32_49
  let c4_i32_50 : BitVec 32 := 4#32
  let v90 : BitVec 32 := Scalar.addi v89 c4_i32_50
  let c1_i32_51 : BitVec 32 := 1#32
  let v91 : BitVec 32 := Scalar.subi v90 c1_i32_51
  let v92 : BitVec 32 := Scalar.maxsi c0_i32_52 v91
  let v93 : BitVec 32 := Scalar.minsi c13_i32_53 v92
  let c128_i32_687 : BitVec 32 := 128#32
  let v1709 : BitVec 32 := Scalar.muli v93 c128_i32_687
  v1709
def k0_mult22 (i : grid0.Coords) : BitVec 32 :=
  let c13_i32_63 : BitVec 32 := 13#32
  let c0_i32_62 : BitVec 32 := 0#32
  let arg2 : BitVec 32 := BitVec.ofNat 32 (i 2).val
  let c16_i32_60 : BitVec 32 := 16#32
  let v104 : BitVec 32 := Scalar.muli arg2 c16_i32_60
  let c5_i32 : BitVec 32 := 5#32
  let v105 : BitVec 32 := Scalar.addi v104 c5_i32
  let c1_i32_61 : BitVec 32 := 1#32
  let v106 : BitVec 32 := Scalar.subi v105 c1_i32_61
  let v107 : BitVec 32 := Scalar.maxsi c0_i32_62 v106
  let v108 : BitVec 32 := Scalar.minsi c13_i32_63 v107
  let c128_i32_695 : BitVec 32 := 128#32
  let v1723 : BitVec 32 := Scalar.muli v108 c128_i32_695
  v1723
def k0_mult23 (i : grid0.Coords) : BitVec 32 :=
  let c13_i32_73 : BitVec 32 := 13#32
  let c0_i32_72 : BitVec 32 := 0#32
  let arg2 : BitVec 32 := BitVec.ofNat 32 (i 2).val
  let c16_i32_70 : BitVec 32 := 16#32
  let v119 : BitVec 32 := Scalar.muli arg2 c16_i32_70
  let c6_i32 : BitVec 32 := 6#32
  let v120 : BitVec 32 := Scalar.addi v119 c6_i32
  let c1_i32_71 : BitVec 32 := 1#32
  let v121 : BitVec 32 := Scalar.subi v120 c1_i32_71
  let v122 : BitVec 32 := Scalar.maxsi c0_i32_72 v121
  let v123 : BitVec 32 := Scalar.minsi c13_i32_73 v122
  let c128_i32_703 : BitVec 32 := 128#32
  let v1737 : BitVec 32 := Scalar.muli v123 c128_i32_703
  v1737
def k0_mult24 (i : grid0.Coords) : BitVec 32 :=
  let c13_i32_83 : BitVec 32 := 13#32
  let c0_i32_82 : BitVec 32 := 0#32
  let arg2 : BitVec 32 := BitVec.ofNat 32 (i 2).val
  let c16_i32_80 : BitVec 32 := 16#32
  let v134 : BitVec 32 := Scalar.muli arg2 c16_i32_80
  let c7_i32 : BitVec 32 := 7#32
  let v135 : BitVec 32 := Scalar.addi v134 c7_i32
  let c1_i32_81 : BitVec 32 := 1#32
  let v136 : BitVec 32 := Scalar.subi v135 c1_i32_81
  let v137 : BitVec 32 := Scalar.maxsi c0_i32_82 v136
  let v138 : BitVec 32 := Scalar.minsi c13_i32_83 v137
  let c128_i32_711 : BitVec 32 := 128#32
  let v1751 : BitVec 32 := Scalar.muli v138 c128_i32_711
  v1751
def k0_mult25 (i : grid0.Coords) : BitVec 32 :=
  let c13_i32_93 : BitVec 32 := 13#32
  let c0_i32_92 : BitVec 32 := 0#32
  let arg2 : BitVec 32 := BitVec.ofNat 32 (i 2).val
  let c16_i32_90 : BitVec 32 := 16#32
  let v149 : BitVec 32 := Scalar.muli arg2 c16_i32_90
  let c8_i32 : BitVec 32 := 8#32
  let v150 : BitVec 32 := Scalar.addi v149 c8_i32
  let c1_i32_91 : BitVec 32 := 1#32
  let v151 : BitVec 32 := Scalar.subi v150 c1_i32_91
  let v152 : BitVec 32 := Scalar.maxsi c0_i32_92 v151
  let v153 : BitVec 32 := Scalar.minsi c13_i32_93 v152
  let c128_i32_719 : BitVec 32 := 128#32
  let v1765 : BitVec 32 := Scalar.muli v153 c128_i32_719
  v1765
def k0_mult26 (i : grid0.Coords) : BitVec 32 :=
  let c13_i32_103 : BitVec 32 := 13#32
  let c0_i32_102 : BitVec 32 := 0#32
  let arg2 : BitVec 32 := BitVec.ofNat 32 (i 2).val
  let c16_i32_100 : BitVec 32 := 16#32
  let v164 : BitVec 32 := Scalar.muli arg2 c16_i32_100
  let c9_i32 : BitVec 32 := 9#32
  let v165 : BitVec 32 := Scalar.addi v164 c9_i32
  let c1_i32_101 : BitVec 32 := 1#32
  let v166 : BitVec 32 := Scalar.subi v165 c1_i32_101
  let v167 : BitVec 32 := Scalar.maxsi c0_i32_102 v166
  let v168 : BitVec 32 := Scalar.minsi c13_i32_103 v167
  let c128_i32_727 : BitVec 32 := 128#32
  let v1779 : BitVec 32 := Scalar.muli v168 c128_i32_727
  v1779
def k0_mult27 (i : grid0.Coords) : BitVec 32 :=
  let c13_i32_113 : BitVec 32 := 13#32
  let c0_i32_112 : BitVec 32 := 0#32
  let arg2 : BitVec 32 := BitVec.ofNat 32 (i 2).val
  let c16_i32_110 : BitVec 32 := 16#32
  let v179 : BitVec 32 := Scalar.muli arg2 c16_i32_110
  let c10_i32 : BitVec 32 := 10#32
  let v180 : BitVec 32 := Scalar.addi v179 c10_i32
  let c1_i32_111 : BitVec 32 := 1#32
  let v181 : BitVec 32 := Scalar.subi v180 c1_i32_111
  let v182 : BitVec 32 := Scalar.maxsi c0_i32_112 v181
  let v183 : BitVec 32 := Scalar.minsi c13_i32_113 v182
  let c128_i32_735 : BitVec 32 := 128#32
  let v1793 : BitVec 32 := Scalar.muli v183 c128_i32_735
  v1793
def k0_mult28 (i : grid0.Coords) : BitVec 32 :=
  let c13_i32_123 : BitVec 32 := 13#32
  let c0_i32_122 : BitVec 32 := 0#32
  let arg2 : BitVec 32 := BitVec.ofNat 32 (i 2).val
  let c16_i32_120 : BitVec 32 := 16#32
  let v194 : BitVec 32 := Scalar.muli arg2 c16_i32_120
  let c11_i32 : BitVec 32 := 11#32
  let v195 : BitVec 32 := Scalar.addi v194 c11_i32
  let c1_i32_121 : BitVec 32 := 1#32
  let v196 : BitVec 32 := Scalar.subi v195 c1_i32_121
  let v197 : BitVec 32 := Scalar.maxsi c0_i32_122 v196
  let v198 : BitVec 32 := Scalar.minsi c13_i32_123 v197
  let c128_i32_743 : BitVec 32 := 128#32
  let v1807 : BitVec 32 := Scalar.muli v198 c128_i32_743
  v1807
def k0_mult29 (i : grid0.Coords) : BitVec 32 :=
  let c13_i32_133 : BitVec 32 := 13#32
  let c0_i32_132 : BitVec 32 := 0#32
  let arg2 : BitVec 32 := BitVec.ofNat 32 (i 2).val
  let c16_i32_130 : BitVec 32 := 16#32
  let v209 : BitVec 32 := Scalar.muli arg2 c16_i32_130
  let c12_i32 : BitVec 32 := 12#32
  let v210 : BitVec 32 := Scalar.addi v209 c12_i32
  let c1_i32_131 : BitVec 32 := 1#32
  let v211 : BitVec 32 := Scalar.subi v210 c1_i32_131
  let v212 : BitVec 32 := Scalar.maxsi c0_i32_132 v211
  let v213 : BitVec 32 := Scalar.minsi c13_i32_133 v212
  let c128_i32_751 : BitVec 32 := 128#32
  let v1821 : BitVec 32 := Scalar.muli v213 c128_i32_751
  v1821
def k0_mult30 (i : grid0.Coords) : BitVec 32 :=
  let c13_i32_144 : BitVec 32 := 13#32
  let c0_i32_143 : BitVec 32 := 0#32
  let arg2 : BitVec 32 := BitVec.ofNat 32 (i 2).val
  let c16_i32_140 : BitVec 32 := 16#32
  let v224 : BitVec 32 := Scalar.muli arg2 c16_i32_140
  let c13_i32_141 : BitVec 32 := 13#32
  let v225 : BitVec 32 := Scalar.addi v224 c13_i32_141
  let c1_i32_142 : BitVec 32 := 1#32
  let v226 : BitVec 32 := Scalar.subi v225 c1_i32_142
  let v227 : BitVec 32 := Scalar.maxsi c0_i32_143 v226
  let v228 : BitVec 32 := Scalar.minsi c13_i32_144 v227
  let c128_i32_759 : BitVec 32 := 128#32
  let v1835 : BitVec 32 := Scalar.muli v228 c128_i32_759
  v1835
def k0_mult31 (i : grid0.Coords) : BitVec 32 :=
  let c13_i32_154 : BitVec 32 := 13#32
  let c0_i32_153 : BitVec 32 := 0#32
  let arg2 : BitVec 32 := BitVec.ofNat 32 (i 2).val
  let c16_i32_151 : BitVec 32 := 16#32
  let v239 : BitVec 32 := Scalar.muli arg2 c16_i32_151
  let c14_i32 : BitVec 32 := 14#32
  let v240 : BitVec 32 := Scalar.addi v239 c14_i32
  let c1_i32_152 : BitVec 32 := 1#32
  let v241 : BitVec 32 := Scalar.subi v240 c1_i32_152
  let v242 : BitVec 32 := Scalar.maxsi c0_i32_153 v241
  let v243 : BitVec 32 := Scalar.minsi c13_i32_154 v242
  let c128_i32_767 : BitVec 32 := 128#32
  let v1849 : BitVec 32 := Scalar.muli v243 c128_i32_767
  v1849
def k0_mult32 (i : grid0.Coords) : BitVec 32 :=
  let c13_i32_165 : BitVec 32 := 13#32
  let c0_i32_164 : BitVec 32 := 0#32
  let arg2 : BitVec 32 := BitVec.ofNat 32 (i 2).val
  let c16_i32_161 : BitVec 32 := 16#32
  let v254 : BitVec 32 := Scalar.muli arg2 c16_i32_161
  let c15_i32_162 : BitVec 32 := 15#32
  let v255 : BitVec 32 := Scalar.addi v254 c15_i32_162
  let c1_i32_163 : BitVec 32 := 1#32
  let v256 : BitVec 32 := Scalar.subi v255 c1_i32_163
  let v257 : BitVec 32 := Scalar.maxsi c0_i32_164 v256
  let v258 : BitVec 32 := Scalar.minsi c13_i32_165 v257
  let c128_i32_775 : BitVec 32 := 128#32
  let v1863 : BitVec 32 := Scalar.muli v258 c128_i32_775
  v1863
def k0_mult33 (i : grid0.Coords) : BitVec 32 :=
  let c13_i32 : BitVec 32 := 13#32
  let c0_i32_10 : BitVec 32 := 0#32
  let arg2 : BitVec 32 := BitVec.ofNat 32 (i 2).val
  let c16_i32 : BitVec 32 := 16#32
  let v29 : BitVec 32 := Scalar.muli arg2 c16_i32
  let c0_i32_8 : BitVec 32 := 0#32
  let v30 : BitVec 32 := Scalar.addi v29 c0_i32_8
  let c1_i32_9 : BitVec 32 := 1#32
  let v31 : BitVec 32 := Scalar.subi v30 c1_i32_9
  let v32 : BitVec 32 := Scalar.maxsi c0_i32_10 v31
  let v33 : BitVec 32 := Scalar.minsi c13_i32 v32
  let c128_i32_787 : BitVec 32 := 128#32
  let v1902 : BitVec 32 := Scalar.muli v33 c128_i32_787
  v1902
def k0_mult34 (i : grid0.Coords) : BitVec 32 :=
  let c13_i32_20 : BitVec 32 := 13#32
  let c0_i32_19 : BitVec 32 := 0#32
  let arg2 : BitVec 32 := BitVec.ofNat 32 (i 2).val
  let c16_i32_16 : BitVec 32 := 16#32
  let v44 : BitVec 32 := Scalar.muli arg2 c16_i32_16
  let c1_i32_17 : BitVec 32 := 1#32
  let v45 : BitVec 32 := Scalar.addi v44 c1_i32_17
  let c1_i32_18 : BitVec 32 := 1#32
  let v46 : BitVec 32 := Scalar.subi v45 c1_i32_18
  let v47 : BitVec 32 := Scalar.maxsi c0_i32_19 v46
  let v48 : BitVec 32 := Scalar.minsi c13_i32_20 v47
  let c128_i32_798 : BitVec 32 := 128#32
  let v1940 : BitVec 32 := Scalar.muli v48 c128_i32_798
  v1940
def k0_off8 (i : grid0.Coords) (c0_i32_8 : BitVec 32) : Fin 3 → Nat :=
  let c13_i32 : BitVec 32 := 13#32
  let c0_i32_10 : BitVec 32 := 0#32
  let arg2 : BitVec 32 := BitVec.ofNat 32 (i 2).val
  let c16_i32 : BitVec 32 := 16#32
  let v29 : BitVec 32 := Scalar.muli arg2 c16_i32
  let v30 : BitVec 32 := Scalar.addi v29 c0_i32_8
  let c1_i32_9 : BitVec 32 := 1#32
  let v31 : BitVec 32 := Scalar.subi v30 c1_i32_9
  let v32 : BitVec 32 := Scalar.maxsi c0_i32_10 v31
  let v33 : BitVec 32 := Scalar.minsi c13_i32 v32
  let v1951 : Index := Scalar.indexCast v33
  let c0_804 : Index := 0#32
  let c0_805 : Index := 0#32
  ![v1951.toNat, 0, 0]
def k0_off9 (i : grid0.Coords) (c0_i32_8 : BitVec 32) (c1_i32_806 : BitVec 32) : Fin 3 → Nat :=
  let c13_i32 : BitVec 32 := 13#32
  let c0_i32_10 : BitVec 32 := 0#32
  let arg2 : BitVec 32 := BitVec.ofNat 32 (i 2).val
  let c16_i32 : BitVec 32 := 16#32
  let v29 : BitVec 32 := Scalar.muli arg2 c16_i32
  let v30 : BitVec 32 := Scalar.addi v29 c0_i32_8
  let c1_i32_9 : BitVec 32 := 1#32
  let v31 : BitVec 32 := Scalar.subi v30 c1_i32_9
  let v32 : BitVec 32 := Scalar.maxsi c0_i32_10 v31
  let v33 : BitVec 32 := Scalar.minsi c13_i32 v32
  let v1954 : BitVec 32 := Scalar.addi v33 c1_i32_806
  let v1955 : Index := Scalar.indexCast v1954
  let c0_807 : Index := 0#32
  let c0_808 : Index := 0#32
  ![v1955.toNat, 0, 0]
def k0_mult35 (i : grid0.Coords) : BitVec 32 :=
  let c13_i32_31 : BitVec 32 := 13#32
  let c0_i32_30 : BitVec 32 := 0#32
  let arg2 : BitVec 32 := BitVec.ofNat 32 (i 2).val
  let c16_i32_27 : BitVec 32 := 16#32
  let v59 : BitVec 32 := Scalar.muli arg2 c16_i32_27
  let c2_i32_28 : BitVec 32 := 2#32
  let v60 : BitVec 32 := Scalar.addi v59 c2_i32_28
  let c1_i32_29 : BitVec 32 := 1#32
  let v61 : BitVec 32 := Scalar.subi v60 c1_i32_29
  let v62 : BitVec 32 := Scalar.maxsi c0_i32_30 v61
  let v63 : BitVec 32 := Scalar.minsi c13_i32_31 v62
  let c128_i32_823 : BitVec 32 := 128#32
  let v2012 : BitVec 32 := Scalar.muli v63 c128_i32_823
  v2012
def k0_mult36 (i : grid0.Coords) : BitVec 32 :=
  let c13_i32_42 : BitVec 32 := 13#32
  let c0_i32_41 : BitVec 32 := 0#32
  let arg2 : BitVec 32 := BitVec.ofNat 32 (i 2).val
  let c16_i32_38 : BitVec 32 := 16#32
  let v74 : BitVec 32 := Scalar.muli arg2 c16_i32_38
  let c3_i32_39 : BitVec 32 := 3#32
  let v75 : BitVec 32 := Scalar.addi v74 c3_i32_39
  let c1_i32_40 : BitVec 32 := 1#32
  let v76 : BitVec 32 := Scalar.subi v75 c1_i32_40
  let v77 : BitVec 32 := Scalar.maxsi c0_i32_41 v76
  let v78 : BitVec 32 := Scalar.minsi c13_i32_42 v77
  let c128_i32_848 : BitVec 32 := 128#32
  let v2084 : BitVec 32 := Scalar.muli v78 c128_i32_848
  v2084
def k0_mult37 (i : grid0.Coords) : BitVec 32 :=
  let c13_i32_53 : BitVec 32 := 13#32
  let c0_i32_52 : BitVec 32 := 0#32
  let arg2 : BitVec 32 := BitVec.ofNat 32 (i 2).val
  let c16_i32_49 : BitVec 32 := 16#32
  let v89 : BitVec 32 := Scalar.muli arg2 c16_i32_49
  let c4_i32_50 : BitVec 32 := 4#32
  let v90 : BitVec 32 := Scalar.addi v89 c4_i32_50
  let c1_i32_51 : BitVec 32 := 1#32
  let v91 : BitVec 32 := Scalar.subi v90 c1_i32_51
  let v92 : BitVec 32 := Scalar.maxsi c0_i32_52 v91
  let v93 : BitVec 32 := Scalar.minsi c13_i32_53 v92
  let c128_i32_873 : BitVec 32 := 128#32
  let v2156 : BitVec 32 := Scalar.muli v93 c128_i32_873
  v2156
def k0_mult38 (i : grid0.Coords) : BitVec 32 :=
  let c13_i32_63 : BitVec 32 := 13#32
  let c0_i32_62 : BitVec 32 := 0#32
  let arg2 : BitVec 32 := BitVec.ofNat 32 (i 2).val
  let c16_i32_60 : BitVec 32 := 16#32
  let v104 : BitVec 32 := Scalar.muli arg2 c16_i32_60
  let c5_i32 : BitVec 32 := 5#32
  let v105 : BitVec 32 := Scalar.addi v104 c5_i32
  let c1_i32_61 : BitVec 32 := 1#32
  let v106 : BitVec 32 := Scalar.subi v105 c1_i32_61
  let v107 : BitVec 32 := Scalar.maxsi c0_i32_62 v106
  let v108 : BitVec 32 := Scalar.minsi c13_i32_63 v107
  let c128_i32_898 : BitVec 32 := 128#32
  let v2228 : BitVec 32 := Scalar.muli v108 c128_i32_898
  v2228
def k0_mult39 (i : grid0.Coords) : BitVec 32 :=
  let c13_i32_73 : BitVec 32 := 13#32
  let c0_i32_72 : BitVec 32 := 0#32
  let arg2 : BitVec 32 := BitVec.ofNat 32 (i 2).val
  let c16_i32_70 : BitVec 32 := 16#32
  let v119 : BitVec 32 := Scalar.muli arg2 c16_i32_70
  let c6_i32 : BitVec 32 := 6#32
  let v120 : BitVec 32 := Scalar.addi v119 c6_i32
  let c1_i32_71 : BitVec 32 := 1#32
  let v121 : BitVec 32 := Scalar.subi v120 c1_i32_71
  let v122 : BitVec 32 := Scalar.maxsi c0_i32_72 v121
  let v123 : BitVec 32 := Scalar.minsi c13_i32_73 v122
  let c128_i32_923 : BitVec 32 := 128#32
  let v2300 : BitVec 32 := Scalar.muli v123 c128_i32_923
  v2300
def k0_mult40 (i : grid0.Coords) : BitVec 32 :=
  let c13_i32_83 : BitVec 32 := 13#32
  let c0_i32_82 : BitVec 32 := 0#32
  let arg2 : BitVec 32 := BitVec.ofNat 32 (i 2).val
  let c16_i32_80 : BitVec 32 := 16#32
  let v134 : BitVec 32 := Scalar.muli arg2 c16_i32_80
  let c7_i32 : BitVec 32 := 7#32
  let v135 : BitVec 32 := Scalar.addi v134 c7_i32
  let c1_i32_81 : BitVec 32 := 1#32
  let v136 : BitVec 32 := Scalar.subi v135 c1_i32_81
  let v137 : BitVec 32 := Scalar.maxsi c0_i32_82 v136
  let v138 : BitVec 32 := Scalar.minsi c13_i32_83 v137
  let c128_i32_948 : BitVec 32 := 128#32
  let v2372 : BitVec 32 := Scalar.muli v138 c128_i32_948
  v2372
def k0_mult41 (i : grid0.Coords) : BitVec 32 :=
  let c13_i32_93 : BitVec 32 := 13#32
  let c0_i32_92 : BitVec 32 := 0#32
  let arg2 : BitVec 32 := BitVec.ofNat 32 (i 2).val
  let c16_i32_90 : BitVec 32 := 16#32
  let v149 : BitVec 32 := Scalar.muli arg2 c16_i32_90
  let c8_i32 : BitVec 32 := 8#32
  let v150 : BitVec 32 := Scalar.addi v149 c8_i32
  let c1_i32_91 : BitVec 32 := 1#32
  let v151 : BitVec 32 := Scalar.subi v150 c1_i32_91
  let v152 : BitVec 32 := Scalar.maxsi c0_i32_92 v151
  let v153 : BitVec 32 := Scalar.minsi c13_i32_93 v152
  let c128_i32_973 : BitVec 32 := 128#32
  let v2444 : BitVec 32 := Scalar.muli v153 c128_i32_973
  v2444
def k0_mult42 (i : grid0.Coords) : BitVec 32 :=
  let c13_i32_103 : BitVec 32 := 13#32
  let c0_i32_102 : BitVec 32 := 0#32
  let arg2 : BitVec 32 := BitVec.ofNat 32 (i 2).val
  let c16_i32_100 : BitVec 32 := 16#32
  let v164 : BitVec 32 := Scalar.muli arg2 c16_i32_100
  let c9_i32 : BitVec 32 := 9#32
  let v165 : BitVec 32 := Scalar.addi v164 c9_i32
  let c1_i32_101 : BitVec 32 := 1#32
  let v166 : BitVec 32 := Scalar.subi v165 c1_i32_101
  let v167 : BitVec 32 := Scalar.maxsi c0_i32_102 v166
  let v168 : BitVec 32 := Scalar.minsi c13_i32_103 v167
  let c128_i32_998 : BitVec 32 := 128#32
  let v2516 : BitVec 32 := Scalar.muli v168 c128_i32_998
  v2516
def k0_mult43 (i : grid0.Coords) : BitVec 32 :=
  let c13_i32_113 : BitVec 32 := 13#32
  let c0_i32_112 : BitVec 32 := 0#32
  let arg2 : BitVec 32 := BitVec.ofNat 32 (i 2).val
  let c16_i32_110 : BitVec 32 := 16#32
  let v179 : BitVec 32 := Scalar.muli arg2 c16_i32_110
  let c10_i32 : BitVec 32 := 10#32
  let v180 : BitVec 32 := Scalar.addi v179 c10_i32
  let c1_i32_111 : BitVec 32 := 1#32
  let v181 : BitVec 32 := Scalar.subi v180 c1_i32_111
  let v182 : BitVec 32 := Scalar.maxsi c0_i32_112 v181
  let v183 : BitVec 32 := Scalar.minsi c13_i32_113 v182
  let c128_i32_1023 : BitVec 32 := 128#32
  let v2588 : BitVec 32 := Scalar.muli v183 c128_i32_1023
  v2588
def k0_mult44 (i : grid0.Coords) : BitVec 32 :=
  let c13_i32_123 : BitVec 32 := 13#32
  let c0_i32_122 : BitVec 32 := 0#32
  let arg2 : BitVec 32 := BitVec.ofNat 32 (i 2).val
  let c16_i32_120 : BitVec 32 := 16#32
  let v194 : BitVec 32 := Scalar.muli arg2 c16_i32_120
  let c11_i32 : BitVec 32 := 11#32
  let v195 : BitVec 32 := Scalar.addi v194 c11_i32
  let c1_i32_121 : BitVec 32 := 1#32
  let v196 : BitVec 32 := Scalar.subi v195 c1_i32_121
  let v197 : BitVec 32 := Scalar.maxsi c0_i32_122 v196
  let v198 : BitVec 32 := Scalar.minsi c13_i32_123 v197
  let c128_i32_1048 : BitVec 32 := 128#32
  let v2660 : BitVec 32 := Scalar.muli v198 c128_i32_1048
  v2660
def k0_mult45 (i : grid0.Coords) : BitVec 32 :=
  let c13_i32_133 : BitVec 32 := 13#32
  let c0_i32_132 : BitVec 32 := 0#32
  let arg2 : BitVec 32 := BitVec.ofNat 32 (i 2).val
  let c16_i32_130 : BitVec 32 := 16#32
  let v209 : BitVec 32 := Scalar.muli arg2 c16_i32_130
  let c12_i32 : BitVec 32 := 12#32
  let v210 : BitVec 32 := Scalar.addi v209 c12_i32
  let c1_i32_131 : BitVec 32 := 1#32
  let v211 : BitVec 32 := Scalar.subi v210 c1_i32_131
  let v212 : BitVec 32 := Scalar.maxsi c0_i32_132 v211
  let v213 : BitVec 32 := Scalar.minsi c13_i32_133 v212
  let c128_i32_1073 : BitVec 32 := 128#32
  let v2732 : BitVec 32 := Scalar.muli v213 c128_i32_1073
  v2732
def k0_mult46 (i : grid0.Coords) : BitVec 32 :=
  let c13_i32_144 : BitVec 32 := 13#32
  let c0_i32_143 : BitVec 32 := 0#32
  let arg2 : BitVec 32 := BitVec.ofNat 32 (i 2).val
  let c16_i32_140 : BitVec 32 := 16#32
  let v224 : BitVec 32 := Scalar.muli arg2 c16_i32_140
  let c13_i32_141 : BitVec 32 := 13#32
  let v225 : BitVec 32 := Scalar.addi v224 c13_i32_141
  let c1_i32_142 : BitVec 32 := 1#32
  let v226 : BitVec 32 := Scalar.subi v225 c1_i32_142
  let v227 : BitVec 32 := Scalar.maxsi c0_i32_143 v226
  let v228 : BitVec 32 := Scalar.minsi c13_i32_144 v227
  let c128_i32_1098 : BitVec 32 := 128#32
  let v2804 : BitVec 32 := Scalar.muli v228 c128_i32_1098
  v2804
def k0_mult47 (i : grid0.Coords) : BitVec 32 :=
  let c13_i32_154 : BitVec 32 := 13#32
  let c0_i32_153 : BitVec 32 := 0#32
  let arg2 : BitVec 32 := BitVec.ofNat 32 (i 2).val
  let c16_i32_151 : BitVec 32 := 16#32
  let v239 : BitVec 32 := Scalar.muli arg2 c16_i32_151
  let c14_i32 : BitVec 32 := 14#32
  let v240 : BitVec 32 := Scalar.addi v239 c14_i32
  let c1_i32_152 : BitVec 32 := 1#32
  let v241 : BitVec 32 := Scalar.subi v240 c1_i32_152
  let v242 : BitVec 32 := Scalar.maxsi c0_i32_153 v241
  let v243 : BitVec 32 := Scalar.minsi c13_i32_154 v242
  let c128_i32_1123 : BitVec 32 := 128#32
  let v2876 : BitVec 32 := Scalar.muli v243 c128_i32_1123
  v2876
def k0_mult48 (i : grid0.Coords) : BitVec 32 :=
  let c13_i32_165 : BitVec 32 := 13#32
  let c0_i32_164 : BitVec 32 := 0#32
  let arg2 : BitVec 32 := BitVec.ofNat 32 (i 2).val
  let c16_i32_161 : BitVec 32 := 16#32
  let v254 : BitVec 32 := Scalar.muli arg2 c16_i32_161
  let c15_i32_162 : BitVec 32 := 15#32
  let v255 : BitVec 32 := Scalar.addi v254 c15_i32_162
  let c1_i32_163 : BitVec 32 := 1#32
  let v256 : BitVec 32 := Scalar.subi v255 c1_i32_163
  let v257 : BitVec 32 := Scalar.maxsi c0_i32_164 v256
  let v258 : BitVec 32 := Scalar.minsi c13_i32_165 v257
  let c128_i32_1148 : BitVec 32 := 128#32
  let v2948 : BitVec 32 := Scalar.muli v258 c128_i32_1148
  v2948
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x3x384x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Proof.Rows.lean ====
/- The arithmetic of ONE token of the layer, over the extended reals: what the kernels' tiles and the references' whole arrays are
   both read as. A token is a row `Fin 1024 → EReal`; weights are functions of their two coordinates. -/
module

public import Idealize.ShloMosaic.Lib.Pipeline.ValueKit
public import Idealize.ShloMosaic.Lib.Pointwise
public import Idealize.ShloMosaic.Lib.Claim

@[expose] public section

noncomputable section

namespace Layer

open Idealize.ShloMosaic

/-- The root-mean-square norm of a row, scaled by the gain `g`: `x / sqrt (mean x² + ε) * g`. -/
def norm (x g : Fin 1024 → EReal) (k : Fin 1024) : EReal :=
  x k * Ideal.rsqrt (Ideal.div (∑ l, x l * x l) (Ideal.ofBits .f32 0x44800000#32) + Ideal.ofBits .f32 0x358637BD#32) * g k

/-- A row times a matrix, at column `f`. -/
def lin {n p : ℕ} (h : Fin n → EReal) (w : Fin n → Fin p → EReal) (f : Fin p) : EReal := ∑ k, h k * w k f

/-- The gated hidden row of the feed-forward: `silu (h · wg) * (h · wu)`. -/
def hidden {p : ℕ} (h : Fin 1024 → EReal) (wg wu : Fin 1024 → Fin p → EReal) (f : Fin p) : EReal :=
  lin h wg f * Ideal.logistic (lin h wg f) * lin h wu f

/-- The half-step feed-forward of a row: `x + ½ · (hidden (norm x) · wd)`. -/
def halfFfn (x g : Fin 1024 → EReal) (wg wu : Fin 1024 → Fin 2816 → EReal) (wd : Fin 2816 → Fin 1024 → EReal)
    (k : Fin 1024) : EReal :=
  x k + Ideal.ofBits .f32 0x3F000000#32 * lin (hidden (norm x g) wg wu) wd k

/-- A gate of the mixer: the logistic of a biased product with the normalised row. -/
def gate (x g : Fin 1024 → EReal) (w : Fin 1024 → Fin 1024 → EReal) (b : Fin 1024 → EReal) (l : Fin 1024) : EReal :=
  Ideal.logistic (lin (norm x g) w l + b l)

/-- The two attention branches of a row, projected and weighed by their gates. -/
def mixed (x g : Fin 1024 → EReal) (w0 w1 : Fin 1024 → Fin 1024 → EReal) (b0 b1 o0 o1 : Fin 1024 → EReal)
    (p0 p1 : Fin 1024 → Fin 1024 → EReal) (l : Fin 1024) : EReal :=
  gate x g w0 b0 l * lin o0 p0 l + gate x g w1 b1 l * lin o1 p1 l

/-- The mixer's residual step on a row. -/
def mixStep (x g : Fin 1024 → EReal) (w0 w1 : Fin 1024 → Fin 1024 → EReal) (b0 b1 o0 o1 : Fin 1024 → EReal)
    (p0 p1 wo : Fin 1024 → Fin 1024 → EReal) (k : Fin 1024) : EReal :=
  x k + lin (mixed x g w0 w1 b0 b1 o0 o1 p0 p1) wo k

/-- `lin` reads its row everywhere and its matrix in one column. -/
theorem lin_congr {n p p' : ℕ} {h h' : Fin n → EReal} {w : Fin n → Fin p → EReal} {w' : Fin n → Fin p' → EReal} {f : Fin p}
    {f' : Fin p'} (hh : ∀ k, h k = h' k) (hw : ∀ k, w k f = w' k f') : lin h w f = lin h' w' f' :=
  Finset.sum_congr rfl fun k _ => by rw [hh k, hw k]

/-- `hidden` reads its two matrices in one column. -/
theorem hidden_congr {p p' : ℕ} {h : Fin 1024 → EReal} {wg wu : Fin 1024 → Fin p → EReal} {wg' wu' : Fin 1024 → Fin p' → EReal}
    {f : Fin p} {f' : Fin p'} (hg : ∀ k, wg k f = wg' k f') (hu : ∀ k, wu k f = wu' k f') :
    hidden h wg wu f = hidden h wg' wu' f' := by
  unfold hidden
  rw [lin_congr (fun _ => rfl) hg, lin_congr (fun _ => rfl) hu]

/-- The whole of a matrix, loaded through a rectangle, is read where it lies. -/
theorem whole_idx {n p : ℕ} (inb : ∀ a, (![0, 0] : Fin 2 → ℕ) a + (![n, p] : Fin 2 → ℕ) a ≤ (⟨2, ![n, p]⟩ : Shape).size a)
    (r : Fin n) (f : Fin p) :
    (Rect.unit (s := ⟨2, ![n, p]⟩) ![0, 0] ![n, p] inb).toLoadRect.idx (ix2 r f) = ix2 r f := by
  funext a
  refine Fin.ext ((Rect.idx_unit_val _ _ inb (ix2 r f) a).trans ?_)
  revert a
  exact Fin.forall_fin_two.mpr ⟨Nat.zero_add _, Nat.zero_add _⟩

/-- A load of `p'` columns of a matrix from column `o` on, read at a row and a column. -/
theorem ld_cols {e : EltTy} {n p p' o : ℕ} (X : (⟨2, ![n, p]⟩ : Shape).Idx → Elt Ideal e)
    (inb : ∀ a, (![0, o] : Fin 2 → ℕ) a + (![n, p'] : Fin 2 → ℕ) a ≤ (⟨2, ![n, p]⟩ : Shape).size a)
    (q : Fin n) (x : Fin p') (f : Fin p) (hf : (f : ℕ) = o + x) :
    View.ld (Val := Elt Ideal) (e' := e) X (Rect.unit (s := ⟨2, ![n, p]⟩) ![0, o] ![n, p'] inb) (ix2 q x) = X (ix2 q f) :=
  View.ld_unit_apply_of _ _ _ _ _ (ix2 q f) (Fin.forall_fin_two.mpr ⟨(Nat.zero_add _).symm, hf⟩)

end Layer

end
-- ==== Proof.FfnRows.lean ====
/- The first feed-forward: the kernel's payloads, each read at an index as the row arithmetic. -/
module

public import proofs.«01_k».proof.Proof.Rows
public import proofs.«01_k».proof.Proof.Gen.FfnIdeal.Skeleton

@[expose] public section

set_option maxRecDepth 16384

noncomputable section

namespace Cert.FfnIdeal.Rows

open Cert.FfnIdeal Cert.FfnIdeal.Gen Idealize.ShloMosaic Idealize.ShloMosaic.TcCoe Idealize.SL.Sem

/-- The normalised block of tokens, row by row. -/
theorem norm_apply (x : FVec Ideal S1024x1024 .f32) (g : FVec Ideal S1x1024 .f32) (r k : Fin 1024) :
    k0_pay5 (F := Ideal) x g (ix2 r k) = Layer.norm (fun l => x (ix2 r l)) (fun l => g (ix2 0 l)) k := by
  pointwise [k0_pay5, k0_pay4, Layer.norm]

/-- The block as the body holds it is the block it loaded. -/
theorem held_apply (x : FVec Ideal S1024x1024 .f32) (r k : Fin 1024) : k0_pay4 (F := Ideal) x (ix2 r k) = x (ix2 r k) := by
  pointwise [k0_pay4]

/-- One 256-column chunk of the gated hidden block. -/
theorem chunk_apply (h : FVec Ideal S1024x1024 .bf16) (wg wu : FVec Ideal S1024x256 .bf16) (r : Fin 1024) (f : Fin 256) :
    k0_pay2 (F := Ideal) h wg wu (ix2 r f)
      = Layer.hidden (fun k => h (ix2 r k)) (fun k f => wg (ix2 k f)) (fun k f => wu (ix2 k f)) f := by
  pointwise [k0_pay2, Layer.hidden, Layer.lin]

/-- The down projection added by half to the block. -/
theorem down_apply (x : FVec Ideal S1024x1024 .f32) (a : FVec Ideal S1024x2816 .bf16) (w : FVec Ideal S2816x1024 .bf16)
    (r k : Fin 1024) :
    k0_pay3 (F := Ideal) x a w (ix2 r k)
      = x (ix2 r k) + Ideal.ofBits .f32 0x3F000000#32 * Layer.lin (fun f => a (ix2 r f)) (fun f k => w (ix2 f k)) k := by
  pointwise [k0_pay3, Layer.lin]

section Chunks
variable (x : FVec Ideal S1024x1024 .f32) (g : FVec Ideal S1x1024 .f32) (h : FVec Ideal S1024x1024 .bf16)
  (wg wu : FVec Ideal S1024x256 .bf16)

/-! Every stored chunk is the same expression, whichever way the body's values are bundled. -/

theorem chunk_11 : k0_pay11 (F := Ideal) h wg wu = k0_pay2 h wg wu := rfl
theorem chunk_12 : k0_pay12 (F := Ideal) h wg wu = k0_pay2 h wg wu := rfl
theorem chunk_15 : k0_pay15 (F := Ideal) h wg wu = k0_pay2 h wg wu := rfl
theorem chunk_16 : k0_pay16 (F := Ideal) h wg wu = k0_pay2 h wg wu := rfl
theorem chunk_17 : k0_pay17 (F := Ideal) h wg wu = k0_pay2 h wg wu := rfl
theorem chunk_18 : k0_pay18 (F := Ideal) h wg wu = k0_pay2 h wg wu := rfl
theorem chunk_19 : k0_pay1 (F := Ideal) (k0_pay19 h wg wu) = k0_pay2 h wg wu := by
  funext j
  pointwise [k0_pay1, k0_pay19, k0_pay2]
theorem chunk_14 : k0_pay14 (F := Ideal) h (k0_pay13 h wg) wu = k0_pay2 h wg wu := rfl
theorem chunk_10 : k0_pay10 (F := Ideal) (k0_pay7 x g wg) (k0_pay8 x g wu) (k0_pay9 x g wg) = k0_pay2 (k0_pay5 x g) wg wu := rfl
theorem chunk_6 : k0_pay6 (F := Ideal) x g wg wu = k0_pay2 (k0_pay5 x g) wg wu := rfl

end Chunks

end Cert.FfnIdeal.Rows

end
-- ==== Proof.FfnRefRows.lean ====
/- The first feed-forward: the reference's composed term, stage by stage, read at an index as the row arithmetic. -/
module

public import proofs.«01_k».proof.Proof.Rows
public import proofs.«01_k».proof.Proof.Gen.FfnRefIdeal.Run

@[expose] public section

set_option maxRecDepth 16384

noncomputable section

namespace Cert.FfnRefIdeal.Rows

open Cert.FfnRefIdeal Cert.FfnRefIdeal.Gen Idealize.ShloMosaic Idealize.ShloMosaic.TcCoe Idealize.SL.Sem

variable (X : FVec Ideal S16x2048x1024 .f32) (G : FVec Ideal S1x1024 .f32)
  (WG WU : FVec Ideal S1x1024x2816 .f32) (WD : FVec Ideal S1x2816x1024 .f32)

/-- The tokens as a matrix. -/
def tok : FVec Ideal S32768x1024 .f32 := shapeCast _ X shapeCasts_S16x2048x1024_S32768x1024

/-- The reference's normalised tokens. -/
def refNorm (x : FVec Ideal S32768x1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast _ G shapeCasts_S1x1024_S1024)))

/-- A product of the normalised tokens with a weight. -/
def refUp (h : FVec Ideal S32768x1024 .f32) (W : FVec Ideal S1x1024x2816 .f32) :
    FVec Ideal S32768x2816 .f32 :=
  Host.dotGeneral dot_S32768x1024_S1024x2816_S32768x2816_1_0_0_1_n_n none h (shapeCast _ W shapeCasts_S1x1024x2816_S1024x2816)

/-- The reference's gated hidden activations from the two products. -/
def refHid (a b : FVec Ideal S32768x2816 .f32) : FVec Ideal S32768x2816 .f32 :=
  mulf (mulf a (Host.divf (broadcastInDim S32768x2816 ![] bcast_S_S32768x2816 (constant S_ .f32 0x3F800000#32)) (addf (broadcastInDim S32768x2816 ![] bcast_S_S32768x2816 (constant S_ .f32 0x3F800000#32)) (Host.exp (Host.negf a))))) b

/-- The whole reference. -/
def REF : FVec Ideal S32768x1024 .f32 :=
  addf (tok X) (mulf (broadcastInDim S32768x1024 ![] bcast_S_S32768x1024 (constant S_ .f32 0x3F000000#32))
    (Host.dotGeneral dot_S32768x2816_S2816x1024_S32768x1024_1_0_0_1_n_n none
      (refHid (refUp (refNorm G (tok X)) WG) (refUp (refNorm G (tok X)) WU)) (shapeCast _ WD shapeCasts_S1x2816x1024_S2816x1024)))

theorem refNorm_apply (x : FVec Ideal S32768x1024 .f32) (i : Fin 32768) (k : Fin 1024) :
    refNorm G x (ix2 i k) = Layer.norm (fun l => x (ix2 i l)) (fun l => G (ix2 0 l)) k := by
  pointwise [refNorm, Layer.norm]

theorem refUp_apply (h : FVec Ideal S32768x1024 .f32) (W : FVec Ideal S1x1024x2816 .f32)
    (i : Fin 32768) (f : Fin 2816) :
    refUp h W (ix2 i f) = Layer.lin (fun k => h (ix2 i k)) (fun k f => W (ix3 0 k f)) f := by
  pointwise [refUp, Layer.lin]

theorem refHid_apply (a b : FVec Ideal S32768x2816 .f32) (j : S32768x2816.Idx) :
    refHid a b j = a j * Ideal.logistic (a j) * b j := by
  pointwise [refHid, Ideal.logistic]

theorem REF_apply (i : Fin 32768) (k : Fin 1024) :
    REF X G WG WU WD (ix2 i k)
      = Layer.halfFfn (fun l => tok X (ix2 i l)) (fun l => G (ix2 0 l)) (fun k f => WG (ix3 0 k f)) (fun k f => WU (ix3 0 k f))
          (fun f k => WD (ix3 0 f k)) k := by
  have hd (h : FVec Ideal S32768x2816 .f32) : (addf (tok X) (mulf (broadcastInDim S32768x1024 ![] bcast_S_S32768x1024 (constant S_ .f32 0x3F000000#32)) (Host.dotGeneral (F := Ideal) dot_S32768x2816_S2816x1024_S32768x1024_1_0_0_1_n_n none h (shapeCast _ WD shapeCasts_S1x2816x1024_S2816x1024)))) (ix2 i k)
      = tok X (ix2 i k) + Ideal.ofBits .f32 0x3F000000#32 * Layer.lin (fun f => h (ix2 i f)) (fun f k => WD (ix3 0 f k)) k := by
    pointwise [Layer.lin]
  simp only [REF, hd, refHid_apply, refUp_apply, refNorm_apply]
  rfl

end Cert.FfnRefIdeal.Rows

end
-- ==== Proof.FfnValue.lean ====
/- The first feed-forward: what the kernel leaves in its output array, and the reference's array, are the same function of the arguments. -/
module

public import proofs.«01_k».proof.Proof.FfnRows
public import proofs.«01_k».proof.Proof.FfnRefRows
public import proofs.«01_k».proof.Proof.Gen.FfnIdeal.Value

@[expose] public section

set_option maxRecDepth 16384

noncomputable section

namespace Cert.FfnIdeal.Final

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- Where every input window sits at grid point `t`: the tokens' block `t`, the other operands whole. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_6.index t = ![t.val, 0] :=
  (by decide +kernel : ∀ t : Fin grid0.N, _)

/-! The arguments at their shapes: tokens, gain, the three weights; and the blocks of them a grid point holds. -/

abbrev aX (c : Dev nD) : FVec Ideal S16x2048x1024 .f32 := m ((c : Thread nD τ).loc main_arg0)
abbrev aG (c : Dev nD) : FVec Ideal S1x1024 .f32 := m ((c : Thread nD τ).loc main_arg1)
abbrev aWG (c : Dev nD) : FVec Ideal S1x1024x2816 .f32 := m ((c : Thread nD τ).loc main_arg2)
abbrev aWU (c : Dev nD) : FVec Ideal S1x1024x2816 .f32 := m ((c : Thread nD τ).loc main_arg3)
abbrev aWD (c : Dev nD) : FVec Ideal S1x2816x1024 .f32 := m ((c : Thread nD τ).loc main_arg4)
abbrev bX (c : Dev nD) (t : Fin cfg0.N) : FVec Ideal S1024x1024 .f32 := iblk m c 0 t
abbrev bG (c : Dev nD) (t : Fin cfg0.N) : FVec Ideal S1x1024 .f32 := iblk m c 1 t
abbrev bWG (c : Dev nD) (t : Fin cfg0.N) : FVec Ideal S1024x2816 .bf16 := iblk m c 2 t
abbrev bWU (c : Dev nD) (t : Fin cfg0.N) : FVec Ideal S1024x2816 .bf16 := iblk m c 3 t
abbrev bWD (c : Dev nD) (t : Fin cfg0.N) : FVec Ideal S2816x1024 .bf16 := iblk m c 4 t

/-- The reference's array at this memory. -/
abbrev target (c : Dev nD) : FVec Ideal Cert.FfnRefIdeal.S32768x1024 .f32 :=
  Cert.FfnRefIdeal.Rows.REF (aX m c) (aG m c)
    (aWG m c) (aWU m c) (aWD m c)

/-- The tokens' block, row by row. -/
theorem blk_x (c : Dev nD) (t : Fin cfg0.N) (r k : Fin 1024) (i : Fin 32768) (hi : (i : ℕ) = t.val * 1024 + r) :
    bX m c t (ix2 r k)
      = Cert.FfnRefIdeal.Rows.tok (aX m c) (ix2 i k) := by
  blk_simp [bX, bG, bWG, bWU, bWD, iblk, idx t]
  entry_read
  refine congrArg (shapeCast S32768x1024 (m (c, Proc.tc.devRef main_arg0)) shapeCasts_S16x2048x1024_S32768x1024) ?_
  blk_ext [idx t]

theorem blk_g (c : Dev nD) (t : Fin cfg0.N) (k : Fin 1024) :
    bG m c t (ix2 0 k)
      = aG m c (ix2 0 k) := by
  blk_point [bX, bG, bWG, bWU, bWD, iblk, idx t]

theorem blk_wg (c : Dev nD) (t : Fin cfg0.N) (k : Fin 1024) (f : Fin 2816) :
    bWG m c t (ix2 k f)
      = aWG m c (ix3 0 k f) := by
  blk_point [bX, bG, bWG, bWU, bWD, iblk, idx t]

theorem blk_wu (c : Dev nD) (t : Fin cfg0.N) (k : Fin 1024) (f : Fin 2816) :
    bWU m c t (ix2 k f)
      = aWU m c (ix3 0 k f) := by
  blk_point [bX, bG, bWG, bWU, bWD, iblk, idx t]

theorem blk_wd (c : Dev nD) (t : Fin cfg0.N) (f : Fin 2816) (k : Fin 1024) :
    bWD m c t (ix2 f k)
      = aWD m c (ix3 0 f k) := by
  blk_point [bX, bG, bWG, bWU, bWD, iblk, idx t]

/-! A chunk of 256 columns of a weight, as a grid point loads it. -/

theorem ld_wg (c : Dev nD) (t : Fin cfg0.N) (o : ℕ)
    (inb : ∀ a, (![0, o] : Fin 2 → ℕ) a + (![1024, 256] : Fin 2 → ℕ) a ≤ S1024x2816.size a) (q : Fin 1024) (x : Fin 256) (f : Fin 2816)
    (hf : (f : ℕ) = o + x) :
    View.ld (Val := Elt Ideal) (e' := .bf16) (bWG m c t) (Rect.unit (s := S1024x2816) ![0, o] ![1024, 256] inb) (ix2 q x)
      = aWG m c (ix3 0 q f) :=
  (Layer.ld_cols (e := .bf16) (bWG m c t) inb q x f hf).trans (blk_wg m c t q f)

theorem ld_wu (c : Dev nD) (t : Fin cfg0.N) (o : ℕ)
    (inb : ∀ a, (![0, o] : Fin 2 → ℕ) a + (![1024, 256] : Fin 2 → ℕ) a ≤ S1024x2816.size a) (q : Fin 1024) (x : Fin 256) (f : Fin 2816)
    (hf : (f : ℕ) = o + x) :
    View.ld (Val := Elt Ideal) (e' := .bf16) (bWU m c t) (Rect.unit (s := S1024x2816) ![0, o] ![1024, 256] inb) (ix2 q x)
      = aWU m c (ix3 0 q f) :=
  (Layer.ld_cols (e := .bf16) (bWU m c t) inb q x f hf).trans (blk_wu m c t q f)

/-- One entry of the gated hidden block, from a chunk of the two weights that holds column `f` at its own column `x 1`. -/
theorem chunk_blk (c : Dev nD) (t : Fin cfg0.N) (r : Fin 1024) (f : Fin 2816) (i : Fin 32768) (hi : (i : ℕ) = t.val * 1024 + r)
    (A B : FVec Ideal S1024x256 .bf16) (x : S1024x256.Idx) (hx : (r : ℕ) = x 0)
    (hA : ∀ k : Fin 1024, A (ix2 k (x 1)) = aWG m c (ix3 0 k f))
    (hB : ∀ k : Fin 1024, B (ix2 k (x 1)) = aWU m c (ix3 0 k f)) :
    k0_pay2 (F := Ideal) (k0_pay5 (bX m c t) (bG m c t)) A B x
      = Layer.hidden (Layer.norm (fun l => Cert.FfnRefIdeal.Rows.tok (aX m c) (ix2 i l))
            (fun l => aG m c (ix2 0 l)))
          (fun k f => aWG m c (ix3 0 k f))
          (fun k f => aWU m c (ix3 0 k f)) f := by
  obtain ⟨r', f', rfl⟩ : ∃ (r' : Fin 1024) (f' : Fin 256), x = ix2 r' f' := ⟨x 0, x 1, by blk_ext⟩
  obtain rfl : r = r' := Fin.ext hx
  rw [Rows.chunk_apply]
  have hn : (fun k => k0_pay5 (F := Ideal) (bX m c t) (bG m c t) (ix2 r k))
      = Layer.norm (fun l => Cert.FfnRefIdeal.Rows.tok (aX m c) (ix2 i l))
            (fun l => aG m c (ix2 0 l)) := by
    funext k
    refine (Rows.norm_apply _ _ r k).trans ?_
    exact congrFun (congrArg₂ Layer.norm (funext fun l => blk_x m c t r l i hi) (funext fun l => blk_g m c t l)) k
  rw [hn]
  exact Layer.hidden_congr hA hB

end Cert.FfnIdeal.Final

end
-- ==== Proof.FfnFinal.lean ====
/- The first feed-forward: what the kernel leaves in its output array, and the reference's array, are the same function of the arguments. -/
module

public import proofs.«01_k».proof.Proof.FfnValue

@[expose] public section

set_option maxRecDepth 16384

noncomputable section

namespace Cert.FfnIdeal.Final

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

set_option maxHeartbeats 1600000 in
/-- After the run the output array is the reference's. -/
theorem final (c : Dev nD) : (dats m 0 c).arrAt 6 (cfgs 0).N = target m c := by
  refine (dats m 0 c).arrAt_eq_of_covers 6 _ (by decide +kernel) fun t _ y => ?_
  blk_simp
  rw [after0_6]
  unfold outsAt0
  frame_out
  obtain ⟨r, k, rfl⟩ : ∃ (r k : Fin 1024), y = ix2 r k := ⟨y 0, y 1, by blk_ext⟩
  rw [Rows.down_apply]
  have ht : t.val < 32 := lt_of_lt_of_eq t.isLt (by decide +kernel)
  obtain ⟨i, hi⟩ : ∃ i : Fin 32768, (i : ℕ) = t.val * 1024 + r := ⟨⟨t.val * 1024 + r, by omega⟩, rfl⟩
  have he : ((View.whole main_v10).slice (win0_6.rect t)).emb (ix2 r k) = (ix2 i k : S32768x1024.Idx) := by
    blk_ext [idx t]
  rw [he]
  refine Eq.trans ?_ (Cert.FfnRefIdeal.Rows.REF_apply _ _ _ _ _ i k).symm
  refine congrArg₂ (· + ·) ?_ (congrArg (Ideal.ofBits FTy.f32 1056964608#32 * ·) (Layer.lin_congr (fun f => ?_) (fun f => ?_)))
  · exact (Rows.held_apply _ r k).trans (blk_x m c t r k i hi)
  · refine (congrFun (View.readCov_eq_canon' _ _ _) _).trans ?_
    simp only [Layer.whole_idx]
    canon_tiles x h
    all_goals try simp only [Rows.chunk_11, Rows.chunk_12, Rows.chunk_15, Rows.chunk_16, Rows.chunk_17, Rows.chunk_18, Rows.chunk_19,
      Rows.chunk_14, Rows.chunk_10, Rows.chunk_6]
    all_goals
      refine chunk_blk m c t r f i hi _ _ x h0 (fun q => ?_) (fun q => ?_)
      · exact ld_wg m c t _ _ q (x 1) f (by first | exact h1 | exact h1.trans (Nat.zero_add _).symm)
      · exact ld_wu m c t _ _ q (x 1) f (by first | exact h1 | exact h1.trans (Nat.zero_add _).symm)
  · exact blk_wd m c t f k

end Cert.FfnIdeal.Final

end
-- ==== Proof.MergeRows.lean ====
/- The mixer's merge and the second feed-forward: the kernel's payloads, each read at an index as the row arithmetic. -/
module

public import proofs.«01_k».proof.Proof.Rows
public import proofs.«01_k».proof.Proof.Gen.MergeIdeal.Skeleton

@[expose] public section

set_option maxRecDepth 16384

noncomputable section

namespace Cert.MergeIdeal.Rows

open Cert.MergeIdeal Cert.MergeIdeal.Gen Idealize.ShloMosaic Idealize.ShloMosaic.TcCoe Idealize.SL.Sem

/-- The two gated branches: columns `l` and `1024 + l` of the gates' weight and bias. -/
theorem mixed_apply (x : FVec Ideal S512x1024 .f32) (g : FVec Ideal S1x1024 .f32) (wg : FVec Ideal S1024x2048 .bf16)
    (b : FVec Ideal S1x2048 .f32) (o0 : FVec Ideal S512x1024 .bf16) (p0 : FVec Ideal S1024x1024 .bf16)
    (o1 : FVec Ideal S512x1024 .bf16) (p1 : FVec Ideal S1024x1024 .bf16) (r : Fin 512) (l : Fin 1024) (l0 l1 : Fin 2048)
    (h0 : (l0 : ℕ) = l) (h1 : (l1 : ℕ) = 1024 + l) :
    k0_pay2 (F := Ideal) x g wg b o0 p0 o1 p1 (ix2 r l)
      = Ideal.logistic (Layer.lin (Layer.norm (fun l => x (ix2 r l)) (fun l => g (ix2 0 l))) (fun k f => wg (ix2 k f)) l0 + b (ix2 0 l0))
          * Layer.lin (fun k => o0 (ix2 r k)) (fun k l => p0 (ix2 k l)) l
        + Ideal.logistic (Layer.lin (Layer.norm (fun l => x (ix2 r l)) (fun l => g (ix2 0 l))) (fun k f => wg (ix2 k f)) l1 + b (ix2 0 l1))
          * Layer.lin (fun k => o1 (ix2 r k)) (fun k l => p1 (ix2 k l)) l := by
  pointwise [k0_pay2, Layer.lin, Layer.norm]
  blk_point

/-- The merged branches through the output projection, added to the tokens. -/
theorem step_apply (x a : FVec Ideal S512x1024 .f32) (wo : FVec Ideal S1024x1024 .bf16) (r : Fin 512) (k : Fin 1024) :
    k0_pay3 (F := Ideal) x a wo (ix2 r k) = x (ix2 r k) + Layer.lin (fun l => a (ix2 r l)) (fun l k => wo (ix2 l k)) k := by
  pointwise [k0_pay3, Layer.lin]

/-- The normalised block entering the feed-forward. -/
theorem norm_apply (x a : FVec Ideal S512x1024 .f32) (wo : FVec Ideal S1024x1024 .bf16) (g : FVec Ideal S1x1024 .f32) (r : Fin 512) (k : Fin 1024) :
    k0_pay4 (F := Ideal) x a wo g (ix2 r k) = Layer.norm (fun l => k0_pay3 (F := Ideal) x a wo (ix2 r l)) (fun l => g (ix2 0 l)) k := by
  pointwise [k0_pay4, Layer.norm]

/-- One 256-column chunk of the gated hidden block. -/
theorem chunk_apply (h : FVec Ideal S512x1024 .bf16) (wg wu : FVec Ideal S1024x256 .bf16) (r : Fin 512) (f : Fin 256) :
    k0_pay9 (F := Ideal) h wg wu (ix2 r f)
      = Layer.hidden (fun k => h (ix2 r k)) (fun k f => wg (ix2 k f)) (fun k f => wu (ix2 k f)) f := by
  pointwise [k0_pay9, Layer.hidden, Layer.lin]

/-- The down projection added by half, then the final norm. -/
theorem last_apply (x : FVec Ideal S512x1024 .f32) (a : FVec Ideal S512x2816 .bf16) (w : FVec Ideal S2816x1024 .bf16)
    (g : FVec Ideal S1x1024 .f32) (r : Fin 512) (k : Fin 1024) :
    k0_pay1 (F := Ideal) (k0_pay22 g) (k0_pay23 x a w) (ix2 r k)
      = Layer.norm (fun k => x (ix2 r k) + Ideal.ofBits .f32 0x3F000000#32 * Layer.lin (fun f => a (ix2 r f)) (fun f k => w (ix2 f k)) k)
          (fun l => g (ix2 0 l)) k := by
  pointwise [k0_pay1, k0_pay22, k0_pay23, Layer.lin, Layer.norm]

section Chunks
variable (x a : FVec Ideal S512x1024 .f32) (wo : FVec Ideal S1024x1024 .bf16) (g : FVec Ideal S1x1024 .f32) (h : FVec Ideal S512x1024 .bf16)
  (wg wu : FVec Ideal S1024x256 .bf16)

/-! Every stored chunk is the same expression, whichever way the body's values are bundled. -/

theorem chunk_5 : k0_pay5 (F := Ideal) x a wo g wg wu = k0_pay9 (k0_pay4 x a wo g) wg wu := rfl
theorem chunk_8 : k0_pay8 (F := Ideal) (k0_pay4 x a wo g) (k0_pay6 x a wo g wg) (k0_pay7 wu) = k0_pay9 (k0_pay4 x a wo g) wg wu := rfl
theorem chunk_10 : k0_pay10 (F := Ideal) h wg wu = k0_pay9 h wg wu := rfl
theorem chunk_12 : k0_pay12 (F := Ideal) h (k0_pay11 wg) wu = k0_pay9 h wg wu := rfl
theorem chunk_13 : k0_pay13 (F := Ideal) h wg wu = k0_pay9 h wg wu := rfl
theorem chunk_15 : k0_pay15 (F := Ideal) (k0_pay14 h wg wu) = k0_pay9 h wg wu := rfl
theorem chunk_16 : k0_pay16 (F := Ideal) h wg wu = k0_pay9 h wg wu := rfl
theorem chunk_17 : k0_pay17 (F := Ideal) h wg wu = k0_pay9 h wg wu := rfl
theorem chunk_20 : k0_pay20 (F := Ideal) (k0_pay18 h wu) (k0_pay19 h wg) = k0_pay9 h wg wu := rfl
theorem chunk_21 : k0_pay21 (F := Ideal) h wg wu = k0_pay9 h wg wu := rfl

end Chunks

end Cert.MergeIdeal.Rows

end
-- ==== Proof.MergeRefRows.lean ====
/- The mixer's merge and the second feed-forward: the reference's composed term, stage by stage, read at an index as the row arithmetic. -/
module

public import proofs.«01_k».proof.Proof.Rows
public import proofs.«01_k».proof.Proof.Gen.MergeRefIdeal.Run

@[expose] public section

set_option maxRecDepth 16384

noncomputable section

namespace Cert.MergeRefIdeal.Rows

open Cert.MergeRefIdeal Cert.MergeRefIdeal.Gen Idealize.ShloMosaic Idealize.ShloMosaic.TcCoe Idealize.SL.Sem

/-- The reference's normalised tokens, the gain a vector. -/
def refNorm (x : FVec Ideal S32768x1024 .f32) (G : FVec Ideal S1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 G))

/-- The reference's two gates. -/
def refGates (h : FVec Ideal S32768x1024 .f32) (W : FVec Ideal S1x1024x6656 .f32) (B : FVec Ideal S1x2x1024 .f32) : FVec Ideal S32768x2x1024 .f32 :=
  Host.divf (broadcastInDim S32768x2x1024 ![] bcast_S_S32768x2x1024 (constant S_ .f32 0x3F800000#32)) (addf (broadcastInDim S32768x2x1024 ![] bcast_S_S32768x2x1024 (constant S_ .f32 0x3F800000#32)) (Host.exp (Host.negf (addf (shapeCast _ (extractStridedSlice S32768x2048 ![0, 4608] (Host.dotGeneral dot_S32768x1024_S1024x6656_S32768x6656_1_0_0_1_n_n none h (shapeCast _ W shapeCasts_S1x1024x6656_S1024x6656)) slices_S32768x6656_S32768x2048_0_4608) shapeCasts_S32768x2048_S32768x2x1024) (broadcastInDim S32768x2x1024 ![0, 1, 2] bcast_S1x2x1024_S32768x2x1024_0_1_2 (broadcastInDim S1x2x1024 ![1, 2] bcast_S2x1024_S1x2x1024_1_2 (shapeCast _ B shapeCasts_S1x2x1024_S2x1024)))))))

/-- The reference's branches through their projections, weighed by the gates. -/
def refMixed (v : FVec Ideal S32768x2x1024 .f32) (o0 o1 : FVec Ideal S32768x1024 .bf16) (p0 p1 : FVec Ideal S1x1024x1024 .f32) : FVec Ideal S32768x1024 .f32 :=
  addf (mulf (shapeCast _ (extractStridedSlice S32768x1x1024 ![0, 0, 0] v slices_S32768x2x1024_S32768x1x1024_0_0_0) shapeCasts_S32768x1x1024_S32768x1024) (Host.dotGeneral dot_S32768x1024_S1024x1024_S32768x1024_1_0_0_1_n_n none (extf .f32 o0 bitsLt_bf16_f32) (shapeCast _ p0 shapeCasts_S1x1024x1024_S1024x1024))) (mulf (shapeCast _ (extractStridedSlice S32768x1x1024 ![0, 1, 0] v slices_S32768x2x1024_S32768x1x1024_0_1_0) shapeCasts_S32768x1x1024_S32768x1024) (Host.dotGeneral dot_S32768x1024_S1024x1024_S32768x1024_1_0_0_1_n_n none (extf .f32 o1 bitsLt_bf16_f32) (shapeCast _ p1 shapeCasts_S1x1024x1024_S1024x1024)))

/-- The mixer's residual step. -/
def refStep (x v : FVec Ideal S32768x1024 .f32) (wo : FVec Ideal S1x1024x1024 .f32) : FVec Ideal S32768x1024 .f32 :=
  addf x (Host.dotGeneral dot_S32768x1024_S1024x1024_S32768x1024_1_0_0_1_n_n none v (shapeCast _ wo shapeCasts_S1x1024x1024_S1024x1024))

/-- A product of the normalised tokens with a weight of the feed-forward. -/
def refUp (h : FVec Ideal S32768x1024 .f32) (W : FVec Ideal S1x1024x2816 .f32) : FVec Ideal S32768x2816 .f32 :=
  Host.dotGeneral dot_S32768x1024_S1024x2816_S32768x2816_1_0_0_1_n_n none h (shapeCast _ W shapeCasts_S1x1024x2816_S1024x2816)

/-- The gated hidden activations from the two products. -/
def refHid (a b : FVec Ideal S32768x2816 .f32) : FVec Ideal S32768x2816 .f32 :=
  mulf (mulf a (Host.divf (broadcastInDim S32768x2816 ![] bcast_S_S32768x2816 (constant S_ .f32 0x3F800000#32)) (addf (broadcastInDim S32768x2816 ![] bcast_S_S32768x2816 (constant S_ .f32 0x3F800000#32)) (Host.exp (Host.negf a))))) b

/-- The down projection added by half. -/
def refDown (x : FVec Ideal S32768x1024 .f32) (v : FVec Ideal S32768x2816 .f32) (wd : FVec Ideal S1x2816x1024 .f32) : FVec Ideal S32768x1024 .f32 :=
  addf x (mulf (broadcastInDim S32768x1024 ![] bcast_S_S32768x1024 (constant S_ .f32 0x3F000000#32)) (Host.dotGeneral dot_S32768x2816_S2816x1024_S32768x1024_1_0_0_1_n_n none v (shapeCast _ wd shapeCasts_S1x2816x1024_S2816x1024)))

theorem refNorm_apply (x : FVec Ideal S32768x1024 .f32) (G : FVec Ideal S1024 .f32) (i : Fin 32768) (k : Fin 1024) :
    refNorm x G (ix2 i k) = Layer.norm (fun l => x (ix2 i l)) (fun l => G (ix1 l)) k := by
  pointwise [refNorm, Layer.norm]

theorem refGates_apply (h : FVec Ideal S32768x1024 .f32) (W : FVec Ideal S1x1024x6656 .f32) (B : FVec Ideal S1x2x1024 .f32) (i : Fin 32768) (s : Fin 2)
    (l : Fin 1024) (f : Fin 6656) (hf : (f : ℕ) = 4608 + s * 1024 + l) :
    refGates h W B (ix3 i s l)
      = Ideal.logistic (Layer.lin (fun k => h (ix2 i k)) (fun k f => W (ix3 0 k f)) f + B (ix3 0 s l)) := by
  pointwise [refGates, Layer.lin, Ideal.logistic]
  blk_point

theorem refMixed_apply (v : FVec Ideal S32768x2x1024 .f32) (o0 o1 : FVec Ideal S32768x1024 .bf16) (p0 p1 : FVec Ideal S1x1024x1024 .f32)
    (i : Fin 32768) (l : Fin 1024) :
    refMixed v o0 o1 p0 p1 (ix2 i l)
      = v (ix3 i 0 l) * Layer.lin (fun k => o0 (ix2 i k)) (fun k l => p0 (ix3 0 k l)) l
        + v (ix3 i 1 l) * Layer.lin (fun k => o1 (ix2 i k)) (fun k l => p1 (ix3 0 k l)) l := by
  pointwise [refMixed, Layer.lin]

theorem refStep_apply (x v : FVec Ideal S32768x1024 .f32) (wo : FVec Ideal S1x1024x1024 .f32) (i : Fin 32768) (k : Fin 1024) :
    refStep x v wo (ix2 i k) = x (ix2 i k) + Layer.lin (fun l => v (ix2 i l)) (fun l k => wo (ix3 0 l k)) k := by
  pointwise [refStep, Layer.lin]

theorem refUp_apply (h : FVec Ideal S32768x1024 .f32) (W : FVec Ideal S1x1024x2816 .f32) (i : Fin 32768) (f : Fin 2816) :
    refUp h W (ix2 i f) = Layer.lin (fun k => h (ix2 i k)) (fun k f => W (ix3 0 k f)) f := by
  pointwise [refUp, Layer.lin]

theorem refHid_apply (a b : FVec Ideal S32768x2816 .f32) (j : S32768x2816.Idx) :
    refHid a b j = a j * Ideal.logistic (a j) * b j := by
  pointwise [refHid, Ideal.logistic]

theorem refDown_apply (x : FVec Ideal S32768x1024 .f32) (v : FVec Ideal S32768x2816 .f32) (wd : FVec Ideal S1x2816x1024 .f32) (i : Fin 32768) (k : Fin 1024) :
    refDown x v wd (ix2 i k)
      = x (ix2 i k) + Ideal.ofBits .f32 0x3F000000#32 * Layer.lin (fun f => v (ix2 i f)) (fun f k => wd (ix3 0 f k)) k := by
  pointwise [refDown, Layer.lin]

section Whole
variable (X : FVec Ideal S32768x1024 .f32) (G : FVec Ideal S1x1024 .f32) (W : FVec Ideal S1x1024x6656 .f32) (B : FVec Ideal S1x2x1024 .f32)
  (o0 o1 : FVec Ideal S32768x1024 .bf16) (p0 p1 wo : FVec Ideal S1x1024x1024 .f32) (G2 : FVec Ideal S1x1024 .f32)
  (WG WU : FVec Ideal S1x1024x2816 .f32) (WD : FVec Ideal S1x2816x1024 .f32) (GF : FVec Ideal S1024 .f32)

/-- The tokens after the mixer. -/
def refX1 : FVec Ideal S32768x1024 .f32 :=
  refStep X (refMixed (refGates (refNorm X (shapeCast _ G shapeCasts_S1x1024_S1024)) W B) o0 o1 p0 p1) wo

/-- The tokens after the second feed-forward. -/
def refX2 (x : FVec Ideal S32768x1024 .f32) : FVec Ideal S32768x1024 .f32 :=
  refDown x (refHid (refUp (refNorm x (shapeCast _ G2 shapeCasts_S1x1024_S1024)) WG) (refUp (refNorm x (shapeCast _ G2 shapeCasts_S1x1024_S1024)) WU)) WD

/-- The whole reference. -/
def REF : FVec Ideal S32768x1024 .f32 := refNorm (refX2 G2 WG WU WD (refX1 X G W B o0 o1 p0 p1 wo)) GF

theorem gain_apply (l : Fin 1024) : (shapeCast S1024 G shapeCasts_S1x1024_S1024 : FVec Ideal S1024 .f32) (ix1 l) = G (ix2 0 l) := by
  pointwise

/-- Column `o + l` of the input projection, as a gate's weight. -/
def gateCols (o : ℕ) (ho : o + 1024 ≤ 6656) (k l : Fin 1024) : EReal := W (ix3 0 k ⟨o + l, by omega⟩)

theorem refX1_apply (i : Fin 32768) (k : Fin 1024) :
    refX1 X G W B o0 o1 p0 p1 wo (ix2 i k)
      = Layer.mixStep (fun l => X (ix2 i l)) (fun l => G (ix2 0 l)) (gateCols W 4608 (by decide)) (gateCols W 5632 (by decide))
          (fun l => B (ix3 0 0 l)) (fun l => B (ix3 0 1 l)) (fun k => o0 (ix2 i k)) (fun k => o1 (ix2 i k))
          (fun k l => p0 (ix3 0 k l)) (fun k l => p1 (ix3 0 k l)) (fun l k => wo (ix3 0 l k)) k := by
  have e0 (l : Fin 1024) := refGates_apply (refNorm X (shapeCast _ G shapeCasts_S1x1024_S1024)) W B i 0 l ⟨4608 + l, by omega⟩ (by simp)
  have e1 (l : Fin 1024) := refGates_apply (refNorm X (shapeCast _ G shapeCasts_S1x1024_S1024)) W B i 1 l ⟨5632 + l, by omega⟩ (by simp)
  simp only [refX1, refStep_apply, refMixed_apply, e0, e1, refNorm_apply, gain_apply]
  rfl

theorem refX2_apply (x : FVec Ideal S32768x1024 .f32) (i : Fin 32768) (k : Fin 1024) :
    refX2 G2 WG WU WD x (ix2 i k)
      = Layer.halfFfn (fun l => x (ix2 i l)) (fun l => G2 (ix2 0 l)) (fun k f => WG (ix3 0 k f)) (fun k f => WU (ix3 0 k f))
          (fun f k => WD (ix3 0 f k)) k := by
  simp only [refX2, refDown_apply, refHid_apply, refUp_apply, refNorm_apply, gain_apply]
  rfl

/-- The whole reference at a token and a channel. -/
theorem REF_apply (i : Fin 32768) (k : Fin 1024) :
    REF X G W B o0 o1 p0 p1 wo G2 WG WU WD GF (ix2 i k)
      = Layer.norm (Layer.halfFfn
          (Layer.mixStep (fun l => X (ix2 i l)) (fun l => G (ix2 0 l)) (gateCols W 4608 (by decide)) (gateCols W 5632 (by decide))
            (fun l => B (ix3 0 0 l)) (fun l => B (ix3 0 1 l)) (fun k => o0 (ix2 i k)) (fun k => o1 (ix2 i k))
            (fun k l => p0 (ix3 0 k l)) (fun k l => p1 (ix3 0 k l)) (fun l k => wo (ix3 0 l k)))
          (fun l => G2 (ix2 0 l)) (fun k f => WG (ix3 0 k f)) (fun k f => WU (ix3 0 k f)) (fun f k => WD (ix3 0 f k)))
        (fun l => GF (ix1 l)) k := by
  simp only [REF, refNorm_apply, refX2_apply, refX1_apply]

end Whole

end Cert.MergeRefIdeal.Rows

end
-- ==== Proof.MergeValue.lean ====
/- The mixer's merge and the second feed-forward: the blocks a grid point holds, read at the arguments. -/
module

public import proofs.«01_k».proof.Proof.MergeRows
public import proofs.«01_k».proof.Proof.MergeRefRows
public import proofs.«01_k».proof.Proof.Gen.MergeIdeal.Value

@[expose] public section

set_option maxRecDepth 16384

noncomputable section

namespace Cert.MergeIdeal.Final

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

/-- Where every window sits at grid point `t`: the three token operands and the result at block `t`, the other operands whole. -/
theorem idx : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![t.val, 0] :=
  (by decide +kernel : ∀ t : Fin grid0.N, _)

/-! The arguments at their shapes, and the blocks of them a grid point holds. -/

abbrev aX (c : Dev nD) : FVec Ideal S32768x1024 .f32 := m ((c : Thread nD τ).loc main_arg0)
abbrev aG (c : Dev nD) : FVec Ideal S1x1024 .f32 := m ((c : Thread nD τ).loc main_arg1)
abbrev aW (c : Dev nD) : FVec Ideal S1x1024x6656 .f32 := m ((c : Thread nD τ).loc main_arg2)
abbrev aB (c : Dev nD) : FVec Ideal S1x2x1024 .f32 := m ((c : Thread nD τ).loc main_arg3)
abbrev aO (c : Dev nD) : FVec Ideal S32768x1024 .bf16 := m ((c : Thread nD τ).loc main_arg4)
abbrev aQ (c : Dev nD) : FVec Ideal S32768x1024 .bf16 := m ((c : Thread nD τ).loc main_arg5)
abbrev aP (c : Dev nD) : FVec Ideal S1x1024x1024 .f32 := m ((c : Thread nD τ).loc main_arg6)
abbrev aR (c : Dev nD) : FVec Ideal S1x1024x1024 .f32 := m ((c : Thread nD τ).loc main_arg7)
abbrev aWO (c : Dev nD) : FVec Ideal S1x1024x1024 .f32 := m ((c : Thread nD τ).loc main_arg8)
abbrev aG2 (c : Dev nD) : FVec Ideal S1x1024 .f32 := m ((c : Thread nD τ).loc main_arg9)
abbrev aWG (c : Dev nD) : FVec Ideal S1x1024x2816 .f32 := m ((c : Thread nD τ).loc main_arg10)
abbrev aWU (c : Dev nD) : FVec Ideal S1x1024x2816 .f32 := m ((c : Thread nD τ).loc main_arg11)
abbrev aWD (c : Dev nD) : FVec Ideal S1x2816x1024 .f32 := m ((c : Thread nD τ).loc main_arg12)
abbrev aGF (c : Dev nD) : FVec Ideal S1024 .f32 := m ((c : Thread nD τ).loc main_arg13)
abbrev bX (c : Dev nD) (t : Fin cfg0.N) : FVec Ideal S512x1024 .f32 := iblk m c 0 t
abbrev bG (c : Dev nD) (t : Fin cfg0.N) : FVec Ideal S1x1024 .f32 := iblk m c 1 t
abbrev bW (c : Dev nD) (t : Fin cfg0.N) : FVec Ideal S1024x2048 .bf16 := iblk m c 2 t
abbrev bB (c : Dev nD) (t : Fin cfg0.N) : FVec Ideal S1x2048 .f32 := iblk m c 3 t
abbrev bO (c : Dev nD) (t : Fin cfg0.N) : FVec Ideal S512x1024 .bf16 := iblk m c 4 t
abbrev bQ (c : Dev nD) (t : Fin cfg0.N) : FVec Ideal S512x1024 .bf16 := iblk m c 5 t
abbrev bP (c : Dev nD) (t : Fin cfg0.N) : FVec Ideal S1024x1024 .bf16 := iblk m c 6 t
abbrev bR (c : Dev nD) (t : Fin cfg0.N) : FVec Ideal S1024x1024 .bf16 := iblk m c 7 t
abbrev bWO (c : Dev nD) (t : Fin cfg0.N) : FVec Ideal S1024x1024 .bf16 := iblk m c 8 t
abbrev bG2 (c : Dev nD) (t : Fin cfg0.N) : FVec Ideal S1x1024 .f32 := iblk m c 9 t
abbrev bWG (c : Dev nD) (t : Fin cfg0.N) : FVec Ideal S1024x2816 .bf16 := iblk m c 10 t
abbrev bWU (c : Dev nD) (t : Fin cfg0.N) : FVec Ideal S1024x2816 .bf16 := iblk m c 11 t
abbrev bWD (c : Dev nD) (t : Fin cfg0.N) : FVec Ideal S2816x1024 .bf16 := iblk m c 12 t
abbrev bGF (c : Dev nD) (t : Fin cfg0.N) : FVec Ideal S1x1024 .f32 := iblk m c 13 t

/-- The reference's array at this memory. -/
abbrev target (c : Dev nD) : FVec Ideal Cert.MergeRefIdeal.S32768x1024 .f32 :=
  Cert.MergeRefIdeal.Rows.REF (aX m c) (aG m c) (aW m c) (aB m c) (aO m c) (aQ m c) (aP m c) (aR m c) (aWO m c) (aG2 m c) (aWG m c) (aWU m c) (aWD m c) (aGF m c)

theorem blk_X (c : Dev nD) (t : Fin cfg0.N) (r : Fin 512) (k : Fin 1024) (i : Fin 32768) (hi : (i : ℕ) = t.val * 512 + r) :
    bX m c t (ix2 r k) = aX m c (ix2 i k) := by
  blk_point [bX, iblk, V, idx t]

theorem blk_O (c : Dev nD) (t : Fin cfg0.N) (r : Fin 512) (k : Fin 1024) (i : Fin 32768) (hi : (i : ℕ) = t.val * 512 + r) :
    bO m c t (ix2 r k) = aO m c (ix2 i k) := by
  blk_point [bO, iblk, V, idx t]

theorem blk_Q (c : Dev nD) (t : Fin cfg0.N) (r : Fin 512) (k : Fin 1024) (i : Fin 32768) (hi : (i : ℕ) = t.val * 512 + r) :
    bQ m c t (ix2 r k) = aQ m c (ix2 i k) := by
  blk_point [bQ, iblk, V, idx t]

theorem blk_G (c : Dev nD) (t : Fin cfg0.N) (k : Fin 1024) :
    bG m c t (ix2 0 k) = aG m c (ix2 0 k) := by
  blk_point [bG, iblk, idx t]

theorem blk_P (c : Dev nD) (t : Fin cfg0.N) (q : Fin 1024) (k : Fin 1024) :
    bP m c t (ix2 q k) = aP m c (ix3 0 q k) := by
  blk_point [bP, iblk, idx t]

theorem blk_R (c : Dev nD) (t : Fin cfg0.N) (q : Fin 1024) (k : Fin 1024) :
    bR m c t (ix2 q k) = aR m c (ix3 0 q k) := by
  blk_point [bR, iblk, idx t]

theorem blk_WO (c : Dev nD) (t : Fin cfg0.N) (q : Fin 1024) (k : Fin 1024) :
    bWO m c t (ix2 q k) = aWO m c (ix3 0 q k) := by
  blk_point [bWO, iblk, idx t]

theorem blk_G2 (c : Dev nD) (t : Fin cfg0.N) (k : Fin 1024) :
    bG2 m c t (ix2 0 k) = aG2 m c (ix2 0 k) := by
  blk_point [bG2, iblk, idx t]

theorem blk_WG (c : Dev nD) (t : Fin cfg0.N) (q : Fin 1024) (k : Fin 2816) :
    bWG m c t (ix2 q k) = aWG m c (ix3 0 q k) := by
  blk_point [bWG, iblk, idx t]

theorem blk_WU (c : Dev nD) (t : Fin cfg0.N) (q : Fin 1024) (k : Fin 2816) :
    bWU m c t (ix2 q k) = aWU m c (ix3 0 q k) := by
  blk_point [bWU, iblk, idx t]

theorem blk_WD (c : Dev nD) (t : Fin cfg0.N) (q : Fin 2816) (k : Fin 1024) :
    bWD m c t (ix2 q k) = aWD m c (ix3 0 q k) := by
  blk_point [bWD, iblk, idx t]

theorem blk_GF (c : Dev nD) (t : Fin cfg0.N) (k : Fin 1024) :
    bGF m c t (ix2 0 k) = aGF m c (ix1 k) := by
  blk_point [bGF, iblk, idx t]

theorem blk_W (c : Dev nD) (t : Fin cfg0.N) (q : Fin 1024) (k : Fin 2048) (f : Fin 6656) (hf : (f : ℕ) = 4608 + k) :
    bW m c t (ix2 q k) = aW m c (ix3 0 q f) := by
  blk_point [bW, iblk, idx t]

theorem blk_B (c : Dev nD) (t : Fin cfg0.N) (k : Fin 2048) (s : Fin 2) (l : Fin 1024) (hf : (k : ℕ) = s * 1024 + l) :
    bB m c t (ix2 0 k) = aB m c (ix3 0 s l) := by
  blk_point [bB, iblk, idx t]

/-- A chunk of 256 columns of a weight, as a grid point loads it. -/
theorem ld_WG (c : Dev nD) (t : Fin cfg0.N) (o : ℕ)
    (inb : ∀ a, (![0, o] : Fin 2 → ℕ) a + (![1024, 256] : Fin 2 → ℕ) a ≤ S1024x2816.size a) (q : Fin 1024) (x : Fin 256) (f : Fin 2816)
    (hf : (f : ℕ) = o + x) :
    View.ld (Val := Elt Ideal) (e' := .bf16) (bWG m c t) (Rect.unit (s := S1024x2816) ![0, o] ![1024, 256] inb) (ix2 q x)
      = aWG m c (ix3 0 q f) :=
  (Layer.ld_cols (e := .bf16) (bWG m c t) inb q x f hf).trans (blk_WG m c t q f)

/-- A chunk of 256 columns of a weight, as a grid point loads it. -/
theorem ld_WU (c : Dev nD) (t : Fin cfg0.N) (o : ℕ)
    (inb : ∀ a, (![0, o] : Fin 2 → ℕ) a + (![1024, 256] : Fin 2 → ℕ) a ≤ S1024x2816.size a) (q : Fin 1024) (x : Fin 256) (f : Fin 2816)
    (hf : (f : ℕ) = o + x) :
    View.ld (Val := Elt Ideal) (e' := .bf16) (bWU m c t) (Rect.unit (s := S1024x2816) ![0, o] ![1024, 256] inb) (ix2 q x)
      = aWU m c (ix3 0 q f) :=
  (Layer.ld_cols (e := .bf16) (bWU m c t) inb q x f hf).trans (blk_WU m c t q f)

end Cert.MergeIdeal.Final

end
-- ==== Proof.MergeFinal.lean ====
/- The mixer's merge and the second feed-forward: what the kernel leaves in its output array is the reference's array. -/
module

public import proofs.«01_k».proof.Proof.MergeValue

@[expose] public section

set_option maxRecDepth 16384

noncomputable section

namespace Cert.MergeIdeal.Final

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

/-- The token row `i` of the mixer's result. -/
abbrev rowX1 (c : Dev nD) (i : Fin 32768) : Fin 1024 → EReal :=
  Layer.mixStep (fun l => aX m c (ix2 i l)) (fun l => aG m c (ix2 0 l)) (Cert.MergeRefIdeal.Rows.gateCols (aW m c) 4608 (by decide))
    (Cert.MergeRefIdeal.Rows.gateCols (aW m c) 5632 (by decide)) (fun l => aB m c (ix3 0 0 l)) (fun l => aB m c (ix3 0 1 l))
    (fun k => aO m c (ix2 i k)) (fun k => aQ m c (ix2 i k)) (fun k l => aP m c (ix3 0 k l)) (fun k l => aR m c (ix3 0 k l))
    (fun l k => aWO m c (ix3 0 l k))

/-- The kernel's block after the mixer's residual step. -/
abbrev blkX1 (c : Dev nD) (t : Fin cfg0.N) : FVec Ideal S512x1024 .f32 :=
  k0_pay3 (F := Ideal) (bX m c t) (k0_pay2 (F := Ideal) (bX m c t) (bG m c t) (bW m c t) (bB m c t) (bO m c t) (bP m c t) (bQ m c t) (bR m c t)) (bWO m c t)

theorem mixed_blk (c : Dev nD) (t : Fin cfg0.N) (r : Fin 512) (i : Fin 32768) (hi : (i : ℕ) = t.val * 512 + r) (l : Fin 1024) :
    k0_pay2 (F := Ideal) (bX m c t) (bG m c t) (bW m c t) (bB m c t) (bO m c t) (bP m c t) (bQ m c t) (bR m c t) (ix2 r l)
      = Layer.mixed (fun l => aX m c (ix2 i l)) (fun l => aG m c (ix2 0 l)) (Cert.MergeRefIdeal.Rows.gateCols (aW m c) 4608 (by decide))
          (Cert.MergeRefIdeal.Rows.gateCols (aW m c) 5632 (by decide)) (fun l => aB m c (ix3 0 0 l)) (fun l => aB m c (ix3 0 1 l))
          (fun k => aO m c (ix2 i k)) (fun k => aQ m c (ix2 i k)) (fun k l => aP m c (ix3 0 k l)) (fun k l => aR m c (ix3 0 k l)) l := by
  refine (Rows.mixed_apply _ _ _ _ _ _ _ _ r l ⟨l, by omega⟩ ⟨1024 + l, by omega⟩ rfl rfl).trans ?_
  have hn : Layer.norm (fun l => bX m c t (ix2 r l)) (fun l => bG m c t (ix2 0 l))
      = Layer.norm (fun l => aX m c (ix2 i l)) (fun l => aG m c (ix2 0 l)) :=
    congrArg₂ Layer.norm (funext fun l => blk_X m c t r l i hi) (funext fun l => blk_G m c t l)
  rw [hn]
  refine congrArg₂ (· + ·) (congrArg₂ (· * ·) (congrArg Ideal.logistic (congrArg₂ (· + ·) ?_ ?_)) ?_)
    (congrArg₂ (· * ·) (congrArg Ideal.logistic (congrArg₂ (· + ·) ?_ ?_)) ?_)
  · exact Layer.lin_congr (fun _ => rfl) fun k => blk_W m c t k _ _ rfl
  · exact blk_B m c t _ 0 l (by simp)
  · exact Layer.lin_congr (fun k => blk_O m c t r k i hi) fun k => blk_P m c t k l
  · exact Layer.lin_congr (fun _ => rfl) fun k => blk_W m c t k _ _ (by show 5632 + (l : ℕ) = 4608 + (1024 + l); omega)
  · exact blk_B m c t _ 1 l (by simp)
  · exact Layer.lin_congr (fun k => blk_Q m c t r k i hi) fun k => blk_R m c t k l

theorem step_blk (c : Dev nD) (t : Fin cfg0.N) (r : Fin 512) (i : Fin 32768) (hi : (i : ℕ) = t.val * 512 + r) (k : Fin 1024) :
    blkX1 m c t (ix2 r k) = rowX1 m c i k := by
  refine (Rows.step_apply _ _ _ r k).trans ?_
  exact congrArg₂ (· + ·) (blk_X m c t r k i hi) (Layer.lin_congr (fun l => mixed_blk m c t r i hi l) fun l => blk_WO m c t l k)

/-- One entry of the gated hidden block, from a chunk of the two weights that holds column `f` at its own column `x 1`. -/
theorem chunk_blk (c : Dev nD) (t : Fin cfg0.N) (r : Fin 512) (f : Fin 2816) (i : Fin 32768) (hi : (i : ℕ) = t.val * 512 + r)
    (A B : FVec Ideal S1024x256 .bf16) (x : S512x256.Idx) (hx : (r : ℕ) = x 0)
    (hA : ∀ k : Fin 1024, A (ix2 k (x 1)) = aWG m c (ix3 0 k f)) (hB : ∀ k : Fin 1024, B (ix2 k (x 1)) = aWU m c (ix3 0 k f)) :
    k0_pay9 (F := Ideal) (k0_pay4 (bX m c t) (k0_pay2 (bX m c t) (bG m c t) (bW m c t) (bB m c t) (bO m c t) (bP m c t) (bQ m c t) (bR m c t)) (bWO m c t) (bG2 m c t)) A B x
      = Layer.hidden (Layer.norm (rowX1 m c i) (fun l => aG2 m c (ix2 0 l))) (fun k f => aWG m c (ix3 0 k f)) (fun k f => aWU m c (ix3 0 k f)) f := by
  obtain ⟨r', f', rfl⟩ : ∃ (r' : Fin 512) (f' : Fin 256), x = ix2 r' f' := ⟨x 0, x 1, by blk_ext⟩
  obtain rfl : r = r' := Fin.ext hx
  rw [Rows.chunk_apply]
  have hn : (fun k => k0_pay4 (F := Ideal) (bX m c t) (k0_pay2 (bX m c t) (bG m c t) (bW m c t) (bB m c t) (bO m c t) (bP m c t) (bQ m c t) (bR m c t)) (bWO m c t) (bG2 m c t) (ix2 r k))
      = Layer.norm (rowX1 m c i) (fun l => aG2 m c (ix2 0 l)) := by
    funext k
    refine (Rows.norm_apply _ _ _ _ r k).trans ?_
    exact congrFun (congrArg₂ Layer.norm (funext fun l => step_blk m c t r i hi l) (funext fun l => blk_G2 m c t l)) k
  rw [hn]
  exact Layer.hidden_congr hA hB

set_option maxHeartbeats 1600000 in
/-- After the run the output array is the reference's. -/
theorem final (c : Dev nD) : (dats m 0 c).arrAt 14 (cfgs 0).N = target m c := by
  refine (dats m 0 c).arrAt_eq_of_covers 14 _ (by decide +kernel) fun t _ y => ?_
  blk_simp
  rw [after0_14]
  unfold outsAt0
  frame_out
  obtain ⟨r, k, rfl⟩ : ∃ (r : Fin 512) (k : Fin 1024), y = ix2 r k := ⟨y 0, y 1, by blk_ext⟩
  rw [Rows.last_apply]
  have ht : t.val < 64 := lt_of_lt_of_eq t.isLt (by decide +kernel)
  obtain ⟨i, hi⟩ : ∃ i : Fin 32768, (i : ℕ) = t.val * 512 + r := ⟨⟨t.val * 512 + r, by omega⟩, rfl⟩
  have he : ((View.whole main_v22).slice (win0_14.rect t)).emb (ix2 r k) = (ix2 i k : S32768x1024.Idx) := by
    blk_ext [idx t]
  rw [he]
  refine Eq.trans ?_ (Cert.MergeRefIdeal.Rows.REF_apply _ _ _ _ _ _ _ _ _ _ _ _ _ _ i k).symm
  refine congrFun (congrArg₂ Layer.norm (funext fun k => ?_) (funext fun l => blk_GF m c t l)) k
  refine congrArg₂ (· + ·) ?_ (congrArg (Ideal.ofBits FTy.f32 1056964608#32 * ·) (Layer.lin_congr (fun f => ?_) (fun f => ?_)))
  · exact step_blk m c t r i hi k
  · refine (congrFun (View.readCov_eq_canon' _ _ _) _).trans ?_
    simp only [Layer.whole_idx]
    canon_tiles x h
    all_goals try simp only [Rows.chunk_5, Rows.chunk_8, Rows.chunk_10, Rows.chunk_12, Rows.chunk_13, Rows.chunk_15, Rows.chunk_16, Rows.chunk_17,
      Rows.chunk_20, Rows.chunk_21]
    all_goals
      refine chunk_blk m c t r f i hi _ _ x h0 (fun q => ?_) (fun q => ?_)
      · exact ld_WG m c t _ _ q (x 1) f (by first | exact h1 | exact h1.trans (Nat.zero_add _).symm)
      · exact ld_WU m c t _ _ q (x 1) f (by first | exact h1 | exact h1.trans (Nat.zero_add _).symm)
  · exact blk_WD m c t f k

end Cert.MergeIdeal.Final

end
-- ==== Proof.ProjRows.lean ====
/- The input projection: the kernel's payloads, each read at an index as the row arithmetic. -/
module

public import proofs.«01_k».proof.Proof.Rows
public import proofs.«01_k».proof.Proof.Gen.ProjIdeal.Skeleton

@[expose] public section

set_option maxRecDepth 16384

noncomputable section

namespace Cert.ProjIdeal.Rows

open Cert.ProjIdeal Cert.ProjIdeal.Gen Idealize.ShloMosaic Idealize.ShloMosaic.TcCoe Idealize.SL.Sem

/-- The normalised block of tokens, row by row. -/
theorem norm_apply (x : FVec Ideal S1024x1024 .f32) (g : FVec Ideal S1x1024 .f32) (r k : Fin 1024) :
    k0_pay3 (F := Ideal) x g (ix2 r k) = Layer.norm (fun l => x (ix2 r l)) (fun l => g (ix2 0 l)) k := by
  pointwise [k0_pay3, Layer.norm]

/-- Rows of a transposed weight times the normalised block: the product of token `r` with column `q`. -/
theorem rows_apply (h : FVec Ideal S1024x1024 .bf16) (w : FVec Ideal S512x1024 .bf16) (q : Fin 512) (r : Fin 1024) :
    k0_pay7 (F := Ideal) h w (ix2 q r) = Layer.lin (fun k => h (ix2 r k)) (fun k q => w (ix2 q k)) q := by
  have e : k0_pay7 (F := Ideal) h w (ix2 q r) = ∑ k, w (ix2 q k) * h (ix2 r k) := by pointwise [k0_pay7]
  rw [e]
  exact Finset.sum_congr rfl fun k _ => mul_comm _ _

/-- The same with 256 rows. -/
theorem few_apply (h : FVec Ideal S1024x1024 .bf16) (w : FVec Ideal S256x1024 .bf16) (q : Fin 256) (r : Fin 1024) :
    k0_pay10 (F := Ideal) h w (ix2 q r) = Layer.lin (fun k => h (ix2 r k)) (fun k q => w (ix2 q k)) q := by
  have e : k0_pay10 (F := Ideal) h w (ix2 q r) = ∑ k, w (ix2 q k) * h (ix2 r k) := by pointwise [k0_pay10]
  rw [e]
  exact Finset.sum_congr rfl fun k _ => mul_comm _ _

/-- The query rows carry the attention's scale. -/
theorem scaled_apply (h : FVec Ideal S1024x1024 .bf16) (w : FVec Ideal S512x1024 .bf16) (q : Fin 512) (r : Fin 1024) :
    k0_pay8 (F := Ideal) h w (ix2 q r)
      = Layer.lin (fun k => h (ix2 r k)) (fun k q => w (ix2 q k)) q * Ideal.ofBits .f32 0x3E38AA3B#32 := by
  have e : k0_pay8 (F := Ideal) h w (ix2 q r) = (∑ k, w (ix2 q k) * h (ix2 r k)) * Ideal.ofBits .f32 0x3E38AA3B#32 := by
    pointwise [k0_pay8]
  rw [e]
  exact congrArg (· * _) (Finset.sum_congr rfl fun k _ => mul_comm _ _)

/-- The normalised block times columns of a weight. -/
theorem cols_apply (h : FVec Ideal S1024x1024 .bf16) (w : FVec Ideal S1024x512 .bf16) (r : Fin 1024) (f : Fin 512) :
    k0_pay1 (F := Ideal) h w (ix2 r f) = Layer.lin (fun k => h (ix2 r k)) (fun k f => w (ix2 k f)) f := by
  pointwise [k0_pay1, Layer.lin]

section Chunks
variable (x : FVec Ideal S1024x1024 .f32) (g : FVec Ideal S1x1024 .f32) (h : FVec Ideal S1024x1024 .bf16)
  (w : FVec Ideal S512x1024 .bf16) (u : FVec Ideal S1024x512 .bf16)

/-! Every stored chunk is one of these expressions, whichever way the body's values are bundled. -/

theorem chunk_4 : k0_pay4 (F := Ideal) x g w = k0_pay8 (k0_pay3 x g) w := rfl
theorem chunk_5 : k0_pay5 (F := Ideal) x g w = k0_pay8 (k0_pay3 x g) w := rfl
theorem chunk_6 : k0_pay6 (F := Ideal) x g w = k0_pay7 (k0_pay3 x g) w := rfl
theorem chunk_9 : k0_pay9 (F := Ideal) h w = k0_pay8 h w := rfl
theorem chunk_11 : k0_pay11 (F := Ideal) h u = k0_pay1 h u := rfl
theorem chunk_2 : k0_pay2 (F := Ideal) h u = k0_pay1 h u := rfl

end Chunks

end Cert.ProjIdeal.Rows

end
-- ==== Proof.ProjRefRows.lean ====
/- The input projection: the reference's composed terms, stage by stage, read at an index as the row arithmetic. -/
module

public import proofs.«01_k».proof.Proof.Rows
public import proofs.«01_k».proof.Proof.Gen.ProjRefIdeal.Run

@[expose] public section

set_option maxRecDepth 16384

noncomputable section

namespace Cert.ProjRefIdeal.Rows

open Cert.ProjRefIdeal Cert.ProjRefIdeal.Gen Idealize.ShloMosaic Idealize.ShloMosaic.TcCoe Idealize.SL.Sem

variable (X : FVec Ideal S32768x1024 .f32) (G : FVec Ideal S1x1024 .f32) (W : FVec Ideal S1x1024x6656 .f32)

/-- The reference's normalised tokens. -/
def refNorm (x : FVec Ideal S32768x1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast _ G shapeCasts_S1x1024_S1024)))

/-- The whole projection. -/
def proj : FVec Ideal S32768x6656 .f32 :=
  Host.dotGeneral dot_S32768x1024_S1024x6656_S32768x6656_1_0_0_1_n_n none (refNorm G X) (shapeCast _ W shapeCasts_S1x1024x6656_S1024x6656)

/-- The scaled queries of the first branch, transposed. -/
def REF0 : FVec Ideal S1024x32768 .bf16 :=
  truncf .bf16 (transpose S1024x32768 [1, 0] (mulf (extractStridedSlice S32768x1024 ![0, 0] (proj X G W) slices_S32768x6656_S32768x1024_0_0) (broadcastInDim S32768x1024 ![] bcast_S_S32768x1024 (constant S_ .f32 0x3E38AA3B#32))) transposes_S32768x1024_S1024x32768_1_0) bitsLt_bf16_f32

/-- The values of the first branch, transposed. -/
def REF1 : FVec Ideal S1024x32768 .bf16 :=
  truncf .bf16 (transpose S1024x32768 [1, 0] (extractStridedSlice S32768x1024 ![0, 2048] (proj X G W) slices_S32768x6656_S32768x1024_0_2048) transposes_S32768x1024_S1024x32768_1_0) bitsLt_bf16_f32

/-- The scaled queries of the second branch, transposed. -/
def REF2 : FVec Ideal S1024x32768 .bf16 :=
  truncf .bf16 (transpose S1024x32768 [1, 0] (mulf (extractStridedSlice S32768x1024 ![0, 3072] (proj X G W) slices_S32768x6656_S32768x1024_0_3072) (broadcastInDim S32768x1024 ![] bcast_S_S32768x1024 (constant S_ .f32 0x3E38AA3B#32))) transposes_S32768x1024_S1024x32768_1_0) bitsLt_bf16_f32

/-- The values of the second branch, transposed. -/
def REF3 : FVec Ideal S256x32768 .bf16 :=
  truncf .bf16 (transpose S256x32768 [1, 0] (extractStridedSlice S32768x256 ![0, 4352] (proj X G W) slices_S32768x6656_S32768x256_0_4352) transposes_S32768x256_S256x32768_1_0) bitsLt_bf16_f32

/-- The keys of the first branch. -/
def REF4 : FVec Ideal S32768x1024 .bf16 :=
  truncf .bf16 (extractStridedSlice S32768x1024 ![0, 1024] (proj X G W) slices_S32768x6656_S32768x1024_0_1024) bitsLt_bf16_f32

/-- The key heads of the second branch. -/
def heads : FVec Ideal S32768x4x64 .f32 :=
  shapeCast _ (extractStridedSlice S32768x256 ![0, 4096] (proj X G W) slices_S32768x6656_S32768x256_0_4096) shapeCasts_S32768x256_S32768x4x64

/-- The keys of the second branch, every head twice. -/
def REF5 : FVec Ideal S32768x512 .bf16 :=
  truncf .bf16 (shapeCast _ (concatenate S32768x4x128 2 [⟨S32768x4x64, heads X G W⟩, ⟨S32768x4x64, heads X G W⟩] concatenates_S32768x4x64_S32768x4x64_S32768x4x128_d2) shapeCasts_S32768x4x128_S32768x512) bitsLt_bf16_f32

theorem refNorm_apply (x : FVec Ideal S32768x1024 .f32) (i : Fin 32768) (k : Fin 1024) :
    refNorm G x (ix2 i k) = Layer.norm (fun l => x (ix2 i l)) (fun l => G (ix2 0 l)) k := by
  pointwise [refNorm, Layer.norm]

/-- Token `i`'s entry `f` of the projection. -/
abbrev entry (i : Fin 32768) (f : Fin 6656) : EReal :=
  Layer.lin (Layer.norm (fun l => X (ix2 i l)) (fun l => G (ix2 0 l))) (fun k f => W (ix3 0 k f)) f

theorem proj_apply (i : Fin 32768) (f : Fin 6656) : proj X G W (ix2 i f) = entry X G W i f := by
  have e (h : FVec Ideal S32768x1024 .f32) : Host.dotGeneral (F := Ideal) dot_S32768x1024_S1024x6656_S32768x6656_1_0_0_1_n_n none h (shapeCast _ W shapeCasts_S1x1024x6656_S1024x6656) (ix2 i f)
      = Layer.lin (fun k => h (ix2 i k)) (fun k f => W (ix3 0 k f)) f := by
    pointwise [Layer.lin]
  refine (e _).trans ?_
  exact Layer.lin_congr (fun k => refNorm_apply G X i k) fun _ => rfl

theorem REF0_apply (q : Fin 1024) (i : Fin 32768) (f : Fin 6656) (hf : (f : ℕ) = q) :
    REF0 X G W (ix2 q i) = entry X G W i f * Ideal.ofBits .f32 0x3E38AA3B#32 := by
  rw [← proj_apply]
  pointwise [REF0]
  exact congrArg (fun z => proj X G W (ix2 i z) * _) (Fin.ext hf.symm)

theorem REF1_apply (q : Fin 1024) (i : Fin 32768) (f : Fin 6656) (hf : (f : ℕ) = 2048 + q) :
    REF1 X G W (ix2 q i) = entry X G W i f := by
  rw [← proj_apply]
  pointwise [REF1]
  exact congrArg (fun z => proj X G W (ix2 i z)) (Fin.ext hf.symm)

theorem REF2_apply (q : Fin 1024) (i : Fin 32768) (f : Fin 6656) (hf : (f : ℕ) = 3072 + q) :
    REF2 X G W (ix2 q i) = entry X G W i f * Ideal.ofBits .f32 0x3E38AA3B#32 := by
  rw [← proj_apply]
  pointwise [REF2]
  exact congrArg (fun z => proj X G W (ix2 i z) * _) (Fin.ext hf.symm)

theorem REF3_apply (q : Fin 256) (i : Fin 32768) (f : Fin 6656) (hf : (f : ℕ) = 4352 + q) :
    REF3 X G W (ix2 q i) = entry X G W i f := by
  rw [← proj_apply]
  pointwise [REF3]
  exact congrArg (fun z => proj X G W (ix2 i z)) (Fin.ext hf.symm)

theorem REF4_apply (i : Fin 32768) (k : Fin 1024) (f : Fin 6656) (hf : (f : ℕ) = 1024 + k) :
    REF4 X G W (ix2 i k) = entry X G W i f := by
  rw [← proj_apply]
  pointwise [REF4]
  exact congrArg (fun z => proj X G W (ix2 i z)) (Fin.ext hf.symm)

theorem REF5_apply (i : Fin 32768) (k : Fin 512) (f : Fin 6656) (hf : (f : ℕ) = 4096 + k / 128 * 64 + k % 64) :
    REF5 X G W (ix2 i k) = entry X G W i f := by
  rw [← proj_apply]
  pointwise [REF5, heads]
  split
  · exact congrArg (fun z => proj X G W (ix2 i z)) (Fin.ext (by rw [hf]; show 4096 + ((k : ℕ) / 128 * 64 + (k : ℕ) % 128) = _; omega))
  · exact congrArg (fun z => proj X G W (ix2 i z)) (Fin.ext (by rw [hf]; show 4096 + ((k : ℕ) / 128 * 64 + ((k : ℕ) % 128 - 64)) = _; omega))

end Cert.ProjRefIdeal.Rows

end
-- ==== Proof.ProjValue.lean ====
/- The input projection: the blocks a grid point holds, read at the arguments. -/
module

public import proofs.«01_k».proof.Proof.ProjRows
public import proofs.«01_k».proof.Proof.ProjRefRows
public import proofs.«01_k».proof.Proof.Gen.ProjIdeal.Value

@[expose] public section

set_option maxRecDepth 16384

noncomputable section

namespace Cert.ProjIdeal.Final

open Cert.ProjIdeal Cert.ProjIdeal.Gen Idealize.ShloMosaic Idealize.ShloMosaic.TcCoe Idealize.SL.Sem
open Idealize.ShloMosaic.Pipeline (Dat)

variable (m : (ℓ : Loc nD τ sig) → Buf (Elt Ideal) ℓ)

/-- Where every window sits at grid point `t`: the tokens and the results at block `t`, the other operands whole. -/
theorem idx : ∀ t : Fin cfg0.N, win0_0.index t = ![t.val, 0] ∧ win0_1.index t = ![0, 0] ∧ win0_2.index t = ![0, 0] ∧ win0_3.index t = ![0, 0]
    ∧ win0_4.index t = ![0, t.val] ∧ win0_5.index t = ![0, t.val] ∧ win0_6.index t = ![0, t.val] ∧ win0_7.index t = ![0, t.val]
    ∧ win0_8.index t = ![t.val, 0] ∧ win0_9.index t = ![t.val, 0] :=
  (by decide +kernel : ∀ t : Fin grid0.N, _)

/-! The arguments at their shapes, and the blocks of them a grid point holds. -/

abbrev aX (c : Dev nD) : FVec Ideal S32768x1024 .f32 := m ((c : Thread nD τ).loc main_arg0)
abbrev aG (c : Dev nD) : FVec Ideal S1x1024 .f32 := m ((c : Thread nD τ).loc main_arg1)
abbrev aW (c : Dev nD) : FVec Ideal S1x1024x6656 .f32 := m ((c : Thread nD τ).loc main_arg2)
abbrev bX (c : Dev nD) (t : Fin cfg0.N) : FVec Ideal S1024x1024 .f32 := iblk m c 0 t
abbrev bG (c : Dev nD) (t : Fin cfg0.N) : FVec Ideal S1x1024 .f32 := iblk m c 1 t
abbrev bW (c : Dev nD) (t : Fin cfg0.N) : FVec Ideal S1024x1536 .bf16 := iblk m c 2 t
abbrev bT (c : Dev nD) (t : Fin cfg0.N) : FVec Ideal S3328x1024 .bf16 := iblk m c 3 t

theorem blk_X (c : Dev nD) (t : Fin cfg0.N) (r k : Fin 1024) (i : Fin 32768) (hi : (i : ℕ) = t.val * 1024 + r) :
    bX m c t (ix2 r k) = aX m c (ix2 i k) := by
  blk_point [bX, iblk, V, idx t]

theorem blk_G (c : Dev nD) (t : Fin cfg0.N) (k : Fin 1024) : bG m c t (ix2 0 k) = aG m c (ix2 0 k) := by
  blk_point [bG, iblk, idx t]

/-- The weight the call loads by columns: the first branch's keys, then the second branch's keys with every head twice. -/
def colsW (W : FVec Ideal S1x1024x6656 .f32) : FVec Ideal S1024x1536 .bf16 :=
  truncf .bf16 (concatenate S1024x1536 1 [⟨S1024x1024, extractStridedSlice S1024x1024 ![0, 1024] (shapeCast S1024x6656 W shapeCasts_S1x1024x6656_S1024x6656) slices_S1024x6656_S1024x1024_0_1024⟩, ⟨S1024x512, shapeCast S1024x512 (broadcastInDim S1024x4x2x64 ![0, 1, 2, 3] bcast_S1024x4x1x64_S1024x4x2x64_0_1_2_3 (shapeCast S1024x4x1x64 (extractStridedSlice S1024x256 ![0, 4096] (shapeCast S1024x6656 W shapeCasts_S1x1024x6656_S1024x6656) slices_S1024x6656_S1024x256_0_4096) shapeCasts_S1024x256_S1024x4x1x64)) shapeCasts_S1024x4x2x64_S1024x512⟩] concatenates_S1024x1024_S1024x512_S1024x1536_d1) bitsLt_bf16_f32

/-- The weight the call loads by rows, transposed: the first branch's queries, its values and the second branch's queries, the second
    branch's values. -/
def rowsW (W : FVec Ideal S1x1024x6656 .f32) : FVec Ideal S3328x1024 .bf16 :=
  truncf .bf16 (transpose S3328x1024 [1, 0] (concatenate S1024x3328 1 [⟨S1024x1024, extractStridedSlice S1024x1024 ![0, 0] (shapeCast S1024x6656 W shapeCasts_S1x1024x6656_S1024x6656) slices_S1024x6656_S1024x1024_0_0⟩, ⟨S1024x2048, extractStridedSlice S1024x2048 ![0, 2048] (shapeCast S1024x6656 W shapeCasts_S1x1024x6656_S1024x6656) slices_S1024x6656_S1024x2048_0_2048⟩, ⟨S1024x256, extractStridedSlice S1024x256 ![0, 4352] (shapeCast S1024x6656 W shapeCasts_S1x1024x6656_S1024x6656) slices_S1024x6656_S1024x256_0_4352⟩] concatenates_S1024x1024_S1024x2048_S1024x256_S1024x3328_d1) transposes_S1024x3328_S3328x1024_1_0) bitsLt_bf16_f32

theorem blk_W (c : Dev nD) (t : Fin cfg0.N) (q : Fin 1024) (k : Fin 1536) : bW m c t (ix2 q k) = colsW (aW m c) (ix2 q k) := by
  blk_simp [bW, iblk, idx t]
  entry_read
  refine congrArg (colsW (m (c, Proc.tc.devRef main_arg2))) ?_
  blk_ext [idx t]

theorem entry_rows (c : Dev nD) : V m c main_v13 = rowsW (aW m c) := rfl

set_option maxHeartbeats 1600000 in
theorem blk_T (c : Dev nD) (t : Fin cfg0.N) (q : Fin 3328) (k : Fin 1024) : bT m c t (ix2 q k) = rowsW (aW m c) (ix2 q k) := by
  blk_simp [bT, iblk, idx t]
  rw [entry_rows]
  refine congrArg (rowsW (m (c, Proc.tc.devRef main_arg2))) ?_
  blk_ext [idx t]

section Host
variable (W : FVec Ideal S1x1024x6656 .f32)

theorem colsW_lo (q : Fin 1024) (k : Fin 1536) (f : Fin 6656) (hk : (k : ℕ) < 1024) (hf : (f : ℕ) = 1024 + k) :
    colsW W (ix2 q k) = W (ix3 0 q f) := by
  pointwise [colsW]
  rw [dif_pos hk]
  exact congrArg (fun z => W (ix3 0 q z)) (Fin.ext hf.symm)

theorem colsW_hi (q : Fin 1024) (k : Fin 1536) (x : Fin 512) (f : Fin 6656) (hk : (k : ℕ) = 1024 + x)
    (hf : (f : ℕ) = 4096 + x / 128 * 64 + x % 64) : colsW W (ix2 q k) = W (ix3 0 q f) := by
  pointwise [colsW]
  rw [dif_neg (by omega)]
  exact congrArg (fun z => W (ix3 0 q z)) (Fin.ext (by simp only [hf, hk]; omega))

theorem rowsW_0 (q : Fin 3328) (k : Fin 1024) (f : Fin 6656) (hq : (q : ℕ) < 1024) (hf : (f : ℕ) = q) :
    rowsW W (ix2 q k) = W (ix3 0 k f) := by
  pointwise [rowsW]
  rw [dif_pos hq]
  exact congrArg (fun z => W (ix3 0 k z)) (Fin.ext hf.symm)

theorem rowsW_1 (q : Fin 3328) (k : Fin 1024) (f : Fin 6656) (h0 : 1024 ≤ (q : ℕ)) (h1 : (q : ℕ) < 3072) (hf : (f : ℕ) = 1024 + q) :
    rowsW W (ix2 q k) = W (ix3 0 k f) := by
  pointwise [rowsW]
  rw [dif_neg (by omega), dif_pos (by omega)]
  exact congrArg (fun z => W (ix3 0 k z)) (Fin.ext (by simp only [hf]; omega))

theorem rowsW_2 (q : Fin 3328) (k : Fin 1024) (f : Fin 6656) (h0 : 3072 ≤ (q : ℕ)) (hf : (f : ℕ) = 1280 + q) :
    rowsW W (ix2 q k) = W (ix3 0 k f) := by
  pointwise [rowsW]
  rw [dif_neg (by omega), dif_neg (by omega)]
  exact congrArg (fun z => W (ix3 0 k z)) (Fin.ext (by simp only [hf]; omega))

end Host

end Cert.ProjIdeal.Final

end
-- ==== Proof.ProjFinal.lean ====
/- The input projection: what the kernel leaves in its six output arrays is the reference's arrays. -/
module

public import proofs.«01_k».proof.Proof.ProjValue

@[expose] public section

set_option maxRecDepth 16384

noncomputable section

namespace Cert.ProjIdeal.Final

open Cert.ProjIdeal Cert.ProjIdeal.Gen Idealize.ShloMosaic Idealize.ShloMosaic.TcCoe Idealize.SL.Sem
open Idealize.ShloMosaic.Pipeline (Dat)

variable (m : (ℓ : Loc nD τ sig) → Buf (Elt Ideal) ℓ)

/-- Token `i`'s entry `f` of the projection. -/
abbrev entry (c : Dev nD) (i : Fin 32768) (f : Fin 6656) : EReal := Cert.ProjRefIdeal.Rows.entry (aX m c) (aG m c) (aW m c) i f

/-- A load of `p'` rows of a matrix from row `o` on, read at a row and a column. -/
theorem ld_rows {e : EltTy} {n p p' o : ℕ} (X : (⟨2, ![n, p]⟩ : Shape).Idx → Elt Ideal e)
    (inb : ∀ a, (![o, 0] : Fin 2 → ℕ) a + (![p', p] : Fin 2 → ℕ) a ≤ (⟨2, ![n, p]⟩ : Shape).size a)
    (x : Fin p') (k : Fin p) (q : Fin n) (hq : (q : ℕ) = o + x) :
    View.ld (Val := Elt Ideal) (e' := e) X (Rect.unit (s := ⟨2, ![n, p]⟩) ![o, 0] ![p', p] inb) (ix2 x k) = X (ix2 q k) :=
  View.ld_unit_apply_of _ _ _ _ _ (ix2 q k) (Fin.forall_fin_two.mpr ⟨hq, (Nat.zero_add _).symm⟩)

/-- The normalised block the body holds, at a token. -/
theorem norm_blk (c : Dev nD) (t : Fin cfg0.N) (r k : Fin 1024) (i : Fin 32768) (hi : (i : ℕ) = t.val * 1024 + r) :
    k0_pay3 (F := Ideal) (View.ld (Val := Elt Ideal) (e' := .f32) (bX m c t) r0_0) (View.ld (Val := Elt Ideal) (e' := .f32) (bG m c t) r0_1) (ix2 r k)
      = Layer.norm (fun l => aX m c (ix2 i l)) (fun l => aG m c (ix2 0 l)) k := by
  refine (Rows.norm_apply _ _ r k).trans ?_
  refine congrFun (congrArg₂ Layer.norm (funext fun l => ?_) (funext fun l => ?_)) k
  · exact (Layer.ld_cols (e := .f32) (bX m c t) _ r l l (Nat.zero_add _).symm).trans (blk_X m c t r l i hi)
  · exact (Layer.ld_cols (e := .f32) (bG m c t) _ 0 l l (Nat.zero_add _).symm).trans (blk_G m c t l)

/-- The normalised block, as the body holds it. -/
abbrev bH (c : Dev nD) (t : Fin cfg0.N) : FVec Ideal S1024x1024 .bf16 :=
  k0_pay3 (F := Ideal) (View.ld (Val := Elt Ideal) (e' := .f32) (bX m c t) r0_0) (View.ld (Val := Elt Ideal) (e' := .f32) (bG m c t) r0_1)

theorem rows_blk (c : Dev nD) (t : Fin cfg0.N) (r : Fin 1024) (i : Fin 32768) (hi : (i : ℕ) = t.val * 1024 + r) (f : Fin 6656)
    (A : FVec Ideal S512x1024 .bf16) (x : S512x1024.Idx) (hx : (r : ℕ) = x 1) (hA : ∀ k : Fin 1024, A (ix2 (x 0) k) = aW m c (ix3 0 k f)) :
    k0_pay7 (F := Ideal) (bH m c t) A x = entry m c i f := by
  obtain ⟨q', r', rfl⟩ : ∃ (q' : Fin 512) (r' : Fin 1024), x = ix2 q' r' := ⟨x 0, x 1, by blk_ext⟩
  obtain rfl : r = r' := Fin.ext hx
  exact (Rows.rows_apply _ _ _ _).trans (Layer.lin_congr (fun k => norm_blk m c t r k i hi) hA)

theorem scaled_blk (c : Dev nD) (t : Fin cfg0.N) (r : Fin 1024) (i : Fin 32768) (hi : (i : ℕ) = t.val * 1024 + r) (f : Fin 6656)
    (A : FVec Ideal S512x1024 .bf16) (x : S512x1024.Idx) (hx : (r : ℕ) = x 1) (hA : ∀ k : Fin 1024, A (ix2 (x 0) k) = aW m c (ix3 0 k f)) :
    k0_pay8 (F := Ideal) (bH m c t) A x = entry m c i f * Ideal.ofBits .f32 0x3E38AA3B#32 := by
  obtain ⟨q', r', rfl⟩ : ∃ (q' : Fin 512) (r' : Fin 1024), x = ix2 q' r' := ⟨x 0, x 1, by blk_ext⟩
  obtain rfl : r = r' := Fin.ext hx
  exact (Rows.scaled_apply _ _ _ _).trans (congrArg (· * _) (Layer.lin_congr (fun k => norm_blk m c t r k i hi) hA))

theorem few_blk (c : Dev nD) (t : Fin cfg0.N) (r : Fin 1024) (i : Fin 32768) (hi : (i : ℕ) = t.val * 1024 + r) (f : Fin 6656)
    (A : FVec Ideal S256x1024 .bf16) (x : S256x1024.Idx) (hx : (r : ℕ) = x 1) (hA : ∀ k : Fin 1024, A (ix2 (x 0) k) = aW m c (ix3 0 k f)) :
    k0_pay10 (F := Ideal) (bH m c t) A x = entry m c i f := by
  obtain ⟨q', r', rfl⟩ : ∃ (q' : Fin 256) (r' : Fin 1024), x = ix2 q' r' := ⟨x 0, x 1, by blk_ext⟩
  obtain rfl : r = r' := Fin.ext hx
  exact (Rows.few_apply _ _ _ _).trans (Layer.lin_congr (fun k => norm_blk m c t r k i hi) hA)

theorem cols_blk (c : Dev nD) (t : Fin cfg0.N) (r : Fin 1024) (i : Fin 32768) (hi : (i : ℕ) = t.val * 1024 + r) (f : Fin 6656)
    (A : FVec Ideal S1024x512 .bf16) (x : S1024x512.Idx) (hx : (r : ℕ) = x 0) (hA : ∀ k : Fin 1024, A (ix2 k (x 1)) = aW m c (ix3 0 k f)) :
    k0_pay1 (F := Ideal) (bH m c t) A x = entry m c i f := by
  obtain ⟨r', q', rfl⟩ : ∃ (r' : Fin 1024) (q' : Fin 512), x = ix2 r' q' := ⟨x 0, x 1, by blk_ext⟩
  obtain rfl : r = r' := Fin.ext hx
  exact (Rows.cols_apply _ _ _ _).trans (Layer.lin_congr (fun k => norm_blk m c t r k i hi) hA)

/-- Loaded rows of the transposed weight: 512 or 256 rows from row `o` on. -/
theorem ld_T (c : Dev nD) (t : Fin cfg0.N) {p o : ℕ} (inb : ∀ a, (![o, 0] : Fin 2 → ℕ) a + (![p, 1024] : Fin 2 → ℕ) a ≤ S3328x1024.size a)
    (x : Fin p) (k : Fin 1024) (q : Fin 3328) (hq : (q : ℕ) = o + x) :
    View.ld (Val := Elt Ideal) (e' := .bf16) (bT m c t) (Rect.unit (s := S3328x1024) ![o, 0] ![p, 1024] inb) (ix2 x k)
      = rowsW (aW m c) (ix2 q k) :=
  (ld_rows (e := .bf16) (bT m c t) inb x k q hq).trans (blk_T m c t q k)

/-- Loaded columns of the weight: 512 columns from column `o` on. -/
theorem ld_W (c : Dev nD) (t : Fin cfg0.N) {o : ℕ} (inb : ∀ a, (![0, o] : Fin 2 → ℕ) a + (![1024, 512] : Fin 2 → ℕ) a ≤ S1024x1536.size a)
    (k : Fin 1024) (x : Fin 512) (q : Fin 1536) (hq : (q : ℕ) = o + x) :
    View.ld (Val := Elt Ideal) (e' := .bf16) (bW m c t) (Rect.unit (s := S1024x1536) ![0, o] ![1024, 512] inb) (ix2 k x)
      = colsW (aW m c) (ix2 k q) :=
  (Layer.ld_cols (e := .bf16) (bW m c t) inb k x q hq).trans (blk_W m c t k q)

theorem point_lt (t : Fin cfg0.N) : t.val < 32 := lt_of_lt_of_eq t.isLt (by decide +kernel)

theorem final4 (c : Dev nD) : (dats m 0 c).arrAt 4 (cfgs 0).N = Cert.ProjRefIdeal.Rows.REF0 (aX m c) (aG m c) (aW m c) := by
  refine (dats m 0 c).arrAt_eq_of_covers 4 _ (by decide +kernel) fun t _ y => ?_
  blk_simp
  rw [after0_4]
  unfold_out out0_4
  obtain ⟨q, r, rfl⟩ : ∃ (q : Fin 1024) (r : Fin 1024), y = ix2 q r := ⟨y 0, y 1, by blk_ext⟩
  have ht := point_lt t
  obtain ⟨i, hi⟩ : ∃ i : Fin 32768, (i : ℕ) = t.val * 1024 + r := ⟨⟨t.val * 1024 + r, by omega⟩, rfl⟩
  have he : ((View.whole main_v16_0).slice (win0_4.rect t)).emb (ix2 q r) = (ix2 q i : S1024x32768.Idx) := by
    blk_ext [idx t]
  rw [he]
  obtain ⟨f, hf⟩ : ∃ f : Fin 6656, (f : ℕ) = 0 + q := ⟨⟨0 + q, by omega⟩, rfl⟩
  obtain ⟨s, hs⟩ : ∃ s : Fin 3328, (s : ℕ) = 0 + q := ⟨⟨0 + q, by omega⟩, rfl⟩
  refine Eq.trans ?_ (Cert.ProjRefIdeal.Rows.REF0_apply _ _ _ q i f (by omega)).symm
  canon_tiles x h
  all_goals try simp only [Rows.chunk_4, Rows.chunk_5, Rows.chunk_6, Rows.chunk_9]
  all_goals
    change (q : ℕ) = _ at h0
    change (r : ℕ) = _ at h1
    refine scaled_blk m c t r i hi f _ x (by omega) fun k => ?_
    exact (ld_T m c t _ (x 0) k s (by omega)).trans (rowsW_0 _ s k f (by omega) (by omega))

theorem final5 (c : Dev nD) : (dats m 0 c).arrAt 5 (cfgs 0).N = Cert.ProjRefIdeal.Rows.REF1 (aX m c) (aG m c) (aW m c) := by
  refine (dats m 0 c).arrAt_eq_of_covers 5 _ (by decide +kernel) fun t _ y => ?_
  blk_simp
  rw [after0_5]
  unfold_out out0_5
  obtain ⟨q, r, rfl⟩ : ∃ (q : Fin 1024) (r : Fin 1024), y = ix2 q r := ⟨y 0, y 1, by blk_ext⟩
  have ht := point_lt t
  obtain ⟨i, hi⟩ : ∃ i : Fin 32768, (i : ℕ) = t.val * 1024 + r := ⟨⟨t.val * 1024 + r, by omega⟩, rfl⟩
  have he : ((View.whole main_v16_1).slice (win0_5.rect t)).emb (ix2 q r) = (ix2 q i : S1024x32768.Idx) := by
    blk_ext [idx t]
  rw [he]
  obtain ⟨f, hf⟩ : ∃ f : Fin 6656, (f : ℕ) = 2048 + q := ⟨⟨2048 + q, by omega⟩, rfl⟩
  obtain ⟨s, hs⟩ : ∃ s : Fin 3328, (s : ℕ) = 1024 + q := ⟨⟨1024 + q, by omega⟩, rfl⟩
  refine Eq.trans ?_ (Cert.ProjRefIdeal.Rows.REF1_apply _ _ _ q i f (by omega)).symm
  canon_tiles x h
  all_goals try simp only [Rows.chunk_4, Rows.chunk_5, Rows.chunk_6, Rows.chunk_9]
  all_goals
    change (q : ℕ) = _ at h0
    change (r : ℕ) = _ at h1
    refine rows_blk m c t r i hi f _ x (by omega) fun k => ?_
    exact (ld_T m c t _ (x 0) k s (by omega)).trans (rowsW_1 _ s k f (by omega) (by omega) (by omega))

theorem final6 (c : Dev nD) : (dats m 0 c).arrAt 6 (cfgs 0).N = Cert.ProjRefIdeal.Rows.REF2 (aX m c) (aG m c) (aW m c) := by
  refine (dats m 0 c).arrAt_eq_of_covers 6 _ (by decide +kernel) fun t _ y => ?_
  blk_simp
  rw [after0_6]
  unfold_out out0_6
  obtain ⟨q, r, rfl⟩ : ∃ (q : Fin 1024) (r : Fin 1024), y = ix2 q r := ⟨y 0, y 1, by blk_ext⟩
  have ht := point_lt t
  obtain ⟨i, hi⟩ : ∃ i : Fin 32768, (i : ℕ) = t.val * 1024 + r := ⟨⟨t.val * 1024 + r, by omega⟩, rfl⟩
  have he : ((View.whole main_v16_2).slice (win0_6.rect t)).emb (ix2 q r) = (ix2 q i : S1024x32768.Idx) := by
    blk_ext [idx t]
  rw [he]
  obtain ⟨f, hf⟩ : ∃ f : Fin 6656, (f : ℕ) = 3072 + q := ⟨⟨3072 + q, by omega⟩, rfl⟩
  obtain ⟨s, hs⟩ : ∃ s : Fin 3328, (s : ℕ) = 2048 + q := ⟨⟨2048 + q, by omega⟩, rfl⟩
  refine Eq.trans ?_ (Cert.ProjRefIdeal.Rows.REF2_apply _ _ _ q i f (by omega)).symm
  canon_tiles x h
  all_goals try simp only [Rows.chunk_4, Rows.chunk_5, Rows.chunk_6, Rows.chunk_9]
  all_goals
    change (q : ℕ) = _ at h0
    change (r : ℕ) = _ at h1
    refine scaled_blk m c t r i hi f _ x (by omega) fun k => ?_
    exact (ld_T m c t _ (x 0) k s (by omega)).trans (rowsW_1 _ s k f (by omega) (by omega) (by omega))

theorem final7 (c : Dev nD) : (dats m 0 c).arrAt 7 (cfgs 0).N = Cert.ProjRefIdeal.Rows.REF3 (aX m c) (aG m c) (aW m c) := by
  refine (dats m 0 c).arrAt_eq_of_covers 7 _ (by decide +kernel) fun t _ y => ?_
  blk_simp
  rw [after0_7]
  unfold_out out0_7
  obtain ⟨q, r, rfl⟩ : ∃ (q : Fin 256) (r : Fin 1024), y = ix2 q r := ⟨y 0, y 1, by blk_ext⟩
  have ht := point_lt t
  obtain ⟨i, hi⟩ : ∃ i : Fin 32768, (i : ℕ) = t.val * 1024 + r := ⟨⟨t.val * 1024 + r, by omega⟩, rfl⟩
  have he : ((View.whole main_v16_3).slice (win0_7.rect t)).emb (ix2 q r) = (ix2 q i : S256x32768.Idx) := by
    blk_ext [idx t]
  rw [he]
  obtain ⟨f, hf⟩ : ∃ f : Fin 6656, (f : ℕ) = 4352 + q := ⟨⟨4352 + q, by omega⟩, rfl⟩
  obtain ⟨s, hs⟩ : ∃ s : Fin 3328, (s : ℕ) = 3072 + q := ⟨⟨3072 + q, by omega⟩, rfl⟩
  refine Eq.trans ?_ (Cert.ProjRefIdeal.Rows.REF3_apply _ _ _ q i f (by omega)).symm
  canon_tiles x h
  all_goals try simp only [Rows.chunk_4, Rows.chunk_5, Rows.chunk_6, Rows.chunk_9]
  all_goals
    change (q : ℕ) = _ at h0
    change (r : ℕ) = _ at h1
    refine few_blk m c t r i hi f _ x (by omega) fun k => ?_
    exact (ld_T m c t _ (x 0) k s (by omega)).trans (rowsW_2 _ s k f (by omega) (by omega))

theorem final8 (c : Dev nD) : (dats m 0 c).arrAt 8 (cfgs 0).N = Cert.ProjRefIdeal.Rows.REF4 (aX m c) (aG m c) (aW m c) := by
  refine (dats m 0 c).arrAt_eq_of_covers 8 _ (by decide +kernel) fun t _ y => ?_
  blk_simp
  rw [after0_8]
  unfold_out out0_8
  obtain ⟨r, q, rfl⟩ : ∃ (r : Fin 1024) (q : Fin 1024), y = ix2 r q := ⟨y 0, y 1, by blk_ext⟩
  have ht := point_lt t
  obtain ⟨i, hi⟩ : ∃ i : Fin 32768, (i : ℕ) = t.val * 1024 + r := ⟨⟨t.val * 1024 + r, by omega⟩, rfl⟩
  have he : ((View.whole main_v16_4).slice (win0_8.rect t)).emb (ix2 r q) = (ix2 i q : S32768x1024.Idx) := by
    blk_ext [idx t]
  rw [he]
  obtain ⟨f, hf⟩ : ∃ f : Fin 6656, (f : ℕ) = 1024 + q := ⟨⟨1024 + q, by omega⟩, rfl⟩
  obtain ⟨s, hs⟩ : ∃ s : Fin 1536, (s : ℕ) = 0 + q := ⟨⟨0 + q, by omega⟩, rfl⟩
  refine Eq.trans ?_ (Cert.ProjRefIdeal.Rows.REF4_apply _ _ _ i q f (by omega)).symm
  canon_tiles x h
  all_goals try simp only [Rows.chunk_11, Rows.chunk_2]
  all_goals
    change (r : ℕ) = _ at h0
    change (q : ℕ) = _ at h1
    refine cols_blk m c t r i hi f _ x (by omega) fun k => ?_
    exact (ld_W m c t _ k (x 1) s (by omega)).trans (colsW_lo _ k s f (by omega) (by omega))

theorem final9 (c : Dev nD) : (dats m 0 c).arrAt 9 (cfgs 0).N = Cert.ProjRefIdeal.Rows.REF5 (aX m c) (aG m c) (aW m c) := by
  refine (dats m 0 c).arrAt_eq_of_covers 9 _ (by decide +kernel) fun t _ y => ?_
  blk_simp
  rw [after0_9]
  unfold_out out0_9
  obtain ⟨r, q, rfl⟩ : ∃ (r : Fin 1024) (q : Fin 512), y = ix2 r q := ⟨y 0, y 1, by blk_ext⟩
  have ht := point_lt t
  obtain ⟨i, hi⟩ : ∃ i : Fin 32768, (i : ℕ) = t.val * 1024 + r := ⟨⟨t.val * 1024 + r, by omega⟩, rfl⟩
  have he : ((View.whole main_v16_5).slice (win0_9.rect t)).emb (ix2 r q) = (ix2 i q : S32768x512.Idx) := by
    blk_ext [idx t]
  rw [he]
  obtain ⟨f, hf⟩ : ∃ f : Fin 6656, (f : ℕ) = 4096 + (q : ℕ) / 128 * 64 + (q : ℕ) % 64 := ⟨⟨4096 + (q : ℕ) / 128 * 64 + (q : ℕ) % 64, by omega⟩, rfl⟩
  obtain ⟨s, hs⟩ : ∃ s : Fin 1536, (s : ℕ) = 1024 + q := ⟨⟨1024 + q, by omega⟩, rfl⟩
  refine Eq.trans ?_ (Cert.ProjRefIdeal.Rows.REF5_apply _ _ _ i q f (by omega)).symm
  canon_tiles x h
  all_goals try simp only [Rows.chunk_11, Rows.chunk_2]
  all_goals
    change (r : ℕ) = _ at h0
    change (q : ℕ) = _ at h1
    refine cols_blk m c t r i hi f _ x (by omega) fun k => ?_
    exact (ld_W m c t _ k (x 1) s (by omega)).trans (colsW_hi _ k s q f (by omega) (by omega))

end Cert.ProjIdeal.Final

end
-- ==== Proof.ProjRefRun.lean ====
/- The input projection: the reference's run, its six results named. -/
module

public import proofs.«01_k».proof.Proof.ProjRefRows

@[expose] public section

set_option maxRecDepth 16384

noncomputable section

namespace Cert.ProjRefIdeal.Rows

open Cert.ProjRefIdeal Cert.ProjRefIdeal.Gen Idealize.ShloMosaic Idealize.ShloMosaic.TcCoe Idealize.SL.Sem

/-- Every run of the reference ends with its six results the arrays `REF0` … `REF5` of its arguments, which it leaves as they were. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = REF0 (m ((c.tc : Thread nD τ).loc main_arg0)) (m ((c.tc : Thread nD τ).loc main_arg1)) (m ((c.tc : Thread nD τ).loc main_arg2))
      ∧ r.2.mem ((c.tc : Thread nD τ).loc main_v30) = REF1 (m ((c.tc : Thread nD τ).loc main_arg0)) (m ((c.tc : Thread nD τ).loc main_arg1)) (m ((c.tc : Thread nD τ).loc main_arg2))
      ∧ r.2.mem ((c.tc : Thread nD τ).loc main_v34) = REF2 (m ((c.tc : Thread nD τ).loc main_arg0)) (m ((c.tc : Thread nD τ).loc main_arg1)) (m ((c.tc : Thread nD τ).loc main_arg2))
      ∧ r.2.mem ((c.tc : Thread nD τ).loc main_v36) = REF3 (m ((c.tc : Thread nD τ).loc main_arg0)) (m ((c.tc : Thread nD τ).loc main_arg1)) (m ((c.tc : Thread nD τ).loc main_arg2))
      ∧ r.2.mem ((c.tc : Thread nD τ).loc main_v37) = REF4 (m ((c.tc : Thread nD τ).loc main_arg0)) (m ((c.tc : Thread nD τ).loc main_arg1)) (m ((c.tc : Thread nD τ).loc main_arg2))
      ∧ r.2.mem ((c.tc : Thread nD τ).loc main_v38) = REF5 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ProjRefIdeal.Value.run m ρ

/-- Equal arguments, equal results. -/
theorem congr_args {β : Type*} (f : FVec Ideal S32768x1024 .f32 → FVec Ideal S1x1024 .f32 → FVec Ideal S1x1024x6656 .f32 → β)
    {X X' : FVec Ideal S32768x1024 .f32} {G G' : FVec Ideal S1x1024 .f32} {W W' : FVec Ideal S1x1024x6656 .f32}
    (e0 : X = X') (e1 : G = G') (e2 : W = W') : f X G W = f X' G' W' := by
  subst e0 e1 e2; rfl

end Cert.ProjRefIdeal.Rows

end
-- ==== Proof.MergeRefRun.lean ====
/- The mixer's merge and the second feed-forward: the reference's run, its result named. -/
module

public import proofs.«01_k».proof.Proof.MergeRefRows
public import proofs.«01_k».proof.Proof.Gen.MergeRefIdeal.Run

@[expose] public section

set_option maxRecDepth 16384

noncomputable section

namespace Cert.MergeRefIdeal.Rows

open Cert.MergeRefIdeal Cert.MergeRefIdeal.Gen Idealize.ShloMosaic Idealize.ShloMosaic.TcCoe Idealize.SL.Sem
open Cert.MergeRefIdeal.Value

section Stages
variable (V : Valuation τ sig (Elt Ideal))

theorem v27_eq : res_main_v27 V = refGates (refNorm (V (Proc.devRef .tc main_arg0)) (shapeCast S1024 (V (Proc.devRef .tc main_arg1)) shapeCasts_S1x1024_S1024)) (V (Proc.devRef .tc main_arg2)) (V (Proc.devRef .tc main_arg3)) := rfl

theorem v43_eq : res_main_v43 V = refStep (V (Proc.devRef .tc main_arg0)) (refMixed (res_main_v27 V) (V (Proc.devRef .tc main_arg4)) (V (Proc.devRef .tc main_arg5)) (V (Proc.devRef .tc main_arg6)) (V (Proc.devRef .tc main_arg7))) (V (Proc.devRef .tc main_arg8)) := rfl

theorem v57_eq : res_main_v57 V = refNorm (res_main_v43 V) (shapeCast S1024 (V (Proc.devRef .tc main_arg9)) shapeCasts_S1x1024_S1024) := rfl

theorem v61_eq : res_main_v61 V = refUp (res_main_v57 V) (V (Proc.devRef .tc main_arg10)) := rfl

theorem v68_eq : res_main_v68 V = refDown (res_main_v43 V) (refHid (res_main_v61 V) (refUp (res_main_v57 V) (V (Proc.devRef .tc main_arg11)))) (V (Proc.devRef .tc main_arg12)) := rfl

/-- The tokens before the last normalisation, composed of the stages. -/
theorem v68_stages : res_main_v68 V = refX2 (V (Proc.devRef .tc main_arg9)) (V (Proc.devRef .tc main_arg10)) (V (Proc.devRef .tc main_arg11)) (V (Proc.devRef .tc main_arg12))
    (refX1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))) := by
  rw [v68_eq, v61_eq, v57_eq, v43_eq, v27_eq]
  rfl

end Stages

/-- Every run of the reference ends with its result the array `REF` of its arguments, which it leaves as they were. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v81) = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  refine (θ_run defs _ _).mono (fun r h c => ⟨(h c).1.trans ?_, (h c).2⟩) (Cert.MergeRefIdeal.Value.run m ρ)
  exact congrArg (fun x => refNorm x (m ((c.tc : Thread nD τ).loc main_arg13))) (v68_stages (StableHlo.launchContents m c))

/-- Equal arguments, equal result. -/
theorem REF_congr {a0 a0' : FVec Ideal S32768x1024 .f32} {a1 a1' : FVec Ideal S1x1024 .f32} {a2 a2' : FVec Ideal S1x1024x6656 .f32} {a3 a3' : FVec Ideal S1x2x1024 .f32} {a4 a4' : FVec Ideal S32768x1024 .bf16} {a5 a5' : FVec Ideal S32768x1024 .bf16} {a6 a6' : FVec Ideal S1x1024x1024 .f32} {a7 a7' : FVec Ideal S1x1024x1024 .f32} {a8 a8' : FVec Ideal S1x1024x1024 .f32} {a9 a9' : FVec Ideal S1x1024 .f32} {a10 a10' : FVec Ideal S1x1024x2816 .f32} {a11 a11' : FVec Ideal S1x1024x2816 .f32} {a12 a12' : FVec Ideal S1x2816x1024 .f32} {a13 a13' : FVec Ideal S1024 .f32} (e0 : a0 = a0') (e1 : a1 = a1') (e2 : a2 = a2') (e3 : a3 = a3') (e4 : a4 = a4') (e5 : a5 = a5') (e6 : a6 = a6') (e7 : a7 = a7') (e8 : a8 = a8') (e9 : a9 = a9') (e10 : a10 = a10') (e11 : a11 = a11') (e12 : a12 = a12') (e13 : a13 = a13') :
    REF a0 a1 a2 a3 a4 a5 a6 a7 a8 a9 a10 a11 a12 a13 = REF a0' a1' a2' a3' a4' a5' a6' a7' a8' a9' a10' a11' a12' a13' := by
  subst e0 e1 e2 e3 e4 e5 e6 e7 e8 e9 e10 e11 e12 e13; rfl

end Cert.MergeRefIdeal.Rows

end
-- ==== Proof.Keep.lean ====
/-
  Programs that only load and store whole staging buffers and scratch: what they hold, they give back.
  `Keeps R p` says that `p` runs from the resource `R` and ends holding `R` again, whatever it computed. `R` names
  the contents of the buffers that are only read and leaves the others' open, so a store needs no bookkeeping and a
  branch on a value just stored needs no evaluation.
-/
module

public import Idealize.ShloMosaic.Lib.Memref
public import Idealize.ShloMosaic.Lib.Tactic
public import Idealize.ShloMosaic.Rules.Step

@[expose] public section

noncomputable section

namespace Keep

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type} [Preorder Lvl] {Λ : Labels}

local notation "𝕄" => MT nD τ sig Ix Val Name U Lvl

variable {defs : Defs nD τ sig Val Λ} {𝒱 : Variants} {c : Thread nD τ} {bd : Option 𝒱.V} {E : Set Name}

/-- The program runs from `R` and gives `R` back. -/
def Keeps (defs : Defs nD τ sig Val Λ) (𝒱 : Variants) (c : Thread nD τ) (bd : Option 𝒱.V) (E : Set Name)
    (R : sProp 𝕄) {α : Type} (p : Prog (TpuEff nD τ sig Val Λ c.2) α) : Prop :=
  R ⊢ wp frame (wpE defs 𝒱 c bd) E p (fun _ => R)

/-- From `R` some contents of the memref can be borrowed to read. -/
def Lends (c : Thread nD τ) (R : sProp 𝕄) {sp : Space} {s : Shape} {e : EltTy} (m : Memref sig c.2.kind sp s e) : Prop :=
  R ⊢ iprop(∃ f, (m.view.loc c ↦[m.view.set]{fullShare} f) ∗ ((m.view.loc c ↦[m.view.set]{fullShare} f) -∗ R))

/-- From `R` the memref can be borrowed to write: any contents may be given back. -/
def Holds (c : Thread nD τ) (R : sProp 𝕄) {sp : Space} {s : Shape} {e : EltTy} (m : Memref sig c.2.kind sp s e) : Prop :=
  R ⊢ iprop(∃ f, (m.view.loc c ↦[m.view.set]{fullShare} f) ∗ (∀ g, (m.view.loc c ↦[m.view.set]{fullShare} g) -∗ R))

variable {α β : Type}

theorem Holds.lends {R : sProp 𝕄} {sp : Space} {s : Shape} {e : EltTy} {m : Memref sig c.2.kind sp s e} (h : Holds (Ix := Ix) (Val := Val) (Name := Name) (U := U) (Lvl := Lvl) c R m) : Lends (Ix := Ix) (Val := Val) (Name := Name) (U := U) (Lvl := Lvl) c R m := by
  refine h.trans ?_
  iintro ⟨%f, H, K⟩
  iexists f
  isplitl [H]; · iexact H
  iapply K

theorem Keeps.ret {R : sProp 𝕄} (a : α) : Keeps (Ix := Ix) (Val := Val) (Name := Name) (U := U) (Lvl := Lvl) defs 𝒱 c bd E R (Prog.ret a) := le_wp_ret frame (wpE defs 𝒱 c bd) E a (fun _ => R)

theorem Keeps.pure {R : sProp 𝕄} (a : α) : Keeps (Ix := Ix) (Val := Val) (Name := Name) (U := U) (Lvl := Lvl) defs 𝒱 c bd E R (Pure.pure a) := Keeps.ret a

theorem Keeps.bind {R : sProp 𝕄} {p : Prog (TpuEff nD τ sig Val Λ c.2) α} {k : α → Prog (TpuEff nD τ sig Val Λ c.2) β}
    (hp : Keeps (Ix := Ix) (Val := Val) (Name := Name) (U := U) (Lvl := Lvl) defs 𝒱 c bd E R p) (hk : ∀ a, Keeps (Ix := Ix) (Val := Val) (Name := Name) (U := U) (Lvl := Lvl) defs 𝒱 c bd E R (k a)) : Keeps (Ix := Ix) (Val := Val) (Name := Name) (U := U) (Lvl := Lvl) defs 𝒱 c bd E R (p >>= k) := by
  unfold Keeps at *
  rw [wp_bind]
  exact hp.trans (wp_mono frame (wpE defs 𝒱 c bd) E hk)

theorem Keeps.load {R : sProp 𝕄} {cs : CoreSpace} {s : Shape} {e : EltTy} {m : Memref sig c.2.kind cs s e} {r : LoadRect s} {hl : m.view.LoadsAt r}
    (h : Lends (Ix := Ix) (Val := Val) (Name := Name) (U := U) (Lvl := Lvl) c R m) : Keeps (Ix := Ix) (Val := Val) (Name := Name) (U := U) (Lvl := Lvl) defs 𝒱 c bd E R (Prog.lift (.load m r hl)) := by
  unfold Keeps
  refine h.trans ?_
  iintro ⟨%f, H, K⟩
  iapply (wp_load 𝒱 c bd E (S := m.view.set) (q := fullShare) (f := f) (m.view.setOn_subset_set r.set)) $$ H
  iintro H
  iapply (le_wp_ret frame (wpE defs 𝒱 c bd) E _ (fun _ => R))
  iapply K; iexact H

theorem Keeps.store {R : sProp 𝕄} {cs : CoreSpace} {s : Shape} {e : EltTy} {m : Memref sig c.2.kind cs s e} {r : Rect s} {w : r.shape.Idx → Val e}
    {Mk : Finset r.shape.Idx} {hx : (m.access r).Stores Mk} {hm : Mk = Finset.univ ∨ ∀ a, r.stride a = 1}
    (h : Holds (Ix := Ix) (Val := Val) (Name := Name) (U := U) (Lvl := Lvl) c R m) : Keeps (Ix := Ix) (Val := Val) (Name := Name) (U := U) (Lvl := Lvl) defs 𝒱 c bd E R (Prog.lift (.store m r w Mk hx hm)) := by
  unfold Keeps
  refine h.trans ?_
  iintro ⟨%f, H, K⟩
  iapply (wp_store 𝒱 c bd E (m := m) (r := r) (w := w) (Mk := Mk) (hx := hx) (hm := hm) (k := Prog.ret) (Q := fun _ => R)
    (S := m.view.set) (f := f) (Memref.setOn_access_subset m r Mk)) $$ H
  iintro H
  iapply (le_wp_ret frame (wpE defs 𝒱 c bd) E _ (fun _ => R))
  iapply K; iexact H

theorem Keeps.word {R : sProp 𝕄} {s : Shape} {e : EltTy} {m : Memref sig c.2.kind .smem s e} {r : Rect s} {h1 : r.shape.numel = 1} {hp : e.packing = 1}
    (h : Lends (Ix := Ix) (Val := Val) (Name := Name) (U := U) (Lvl := Lvl) c R m) : Keeps (Ix := Ix) (Val := Val) (Name := Name) (U := U) (Lvl := Lvl) defs 𝒱 c bd E R (smemLoad m r h1 hp) := by
  unfold Keeps smemLoad smemLoadElt
  refine h.trans ?_
  iintro ⟨%f, H, K⟩
  iapply (wp_load 𝒱 c bd E (S := m.view.set) (q := fullShare) (f := f) (m.view.setOn_subset_set r.toLoadRect.set)) $$ H
  iintro H
  iapply (le_wp_ret frame (wpE defs 𝒱 c bd) E _ (fun _ => R))
  iapply K; iexact H

end Keep

end
-- ==== Proof.KeepOwns.lean ====
/-
  Which memrefs a separating conjunction lends or holds: the conjunct that owns them does.
-/
module

public import proofs.«01_k».proof.Proof.Keep

@[expose] public section

noncomputable section

namespace Keep

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type} [Preorder Lvl] {Λ : Labels}

local notation "𝕄" => MT nD τ sig Ix Val Name U Lvl

variable {defs : Defs nD τ sig Val Λ} {𝒱 : Variants} {c : Thread nD τ} {bd : Option 𝒱.V} {E : Set Name}

/-- A memref owned at named contents can be read. -/
theorem Lends.owns {sp : Space} {s : Shape} {e : EltTy} (m : Memref sig c.2.kind sp s e) (X : s.Idx → Val e) :
    Lends (Ix := Ix) (Val := Val) (Name := Name) (U := U) (Lvl := Lvl) c (owns c m fullShare X) m := by
  unfold Lends at *
  unfold Idealize.ShloMosaic.owns
  iintro ⟨%f, %hf, H⟩
  iexists f
  isplitl [H]; · iexact H
  iintro H
  iexists f
  isplitr
  · ipureintro; exact hf
  · iexact H

/-- A memref owned at some contents can be written. -/
theorem Holds.some {sp : Space} {s : Shape} {e : EltTy} (m : Memref sig c.2.kind sp s e) :
    Holds (Ix := Ix) (Val := Val) (Name := Name) (U := U) (Lvl := Lvl) c iprop(∃ X, Idealize.ShloMosaic.owns c m fullShare X) m := by
  unfold Holds at *
  unfold Idealize.ShloMosaic.owns
  iintro ⟨%X, %f, %hf, H⟩
  iexists f
  isplitl [H]; · iexact H
  iintro %g H
  iexists (m.view.read Val g)
  iexists g
  isplitr
  · ipureintro; rfl
  · iexact H

theorem Lends.left {P R : sProp 𝕄} {sp : Space} {s : Shape} {e : EltTy} {m : Memref sig c.2.kind sp s e}
    (h : Lends (Ix := Ix) (Val := Val) (Name := Name) (U := U) (Lvl := Lvl) c P m) : Lends (Ix := Ix) (Val := Val) (Name := Name) (U := U) (Lvl := Lvl) c iprop(P ∗ R) m := by
  unfold Lends at *
  iintro ⟨HP, HR⟩
  ihave H := h $$ HP
  icases H with ⟨%f, H, K⟩
  iexists f
  isplitl [H]; · iexact H
  iintro H
  isplitl [H K]
  · iapply K; iexact H
  · iexact HR

theorem Lends.right {P R : sProp 𝕄} {sp : Space} {s : Shape} {e : EltTy} {m : Memref sig c.2.kind sp s e}
    (h : Lends (Ix := Ix) (Val := Val) (Name := Name) (U := U) (Lvl := Lvl) c R m) : Lends (Ix := Ix) (Val := Val) (Name := Name) (U := U) (Lvl := Lvl) c iprop(P ∗ R) m := by
  unfold Lends at *
  iintro ⟨HP, HR⟩
  ihave H := h $$ HR
  icases H with ⟨%f, H, K⟩
  iexists f
  isplitl [H]; · iexact H
  iintro H
  isplitl [HP]; · iexact HP
  iapply K; iexact H

theorem Holds.left {P R : sProp 𝕄} {sp : Space} {s : Shape} {e : EltTy} {m : Memref sig c.2.kind sp s e}
    (h : Holds (Ix := Ix) (Val := Val) (Name := Name) (U := U) (Lvl := Lvl) c P m) : Holds (Ix := Ix) (Val := Val) (Name := Name) (U := U) (Lvl := Lvl) c iprop(P ∗ R) m := by
  unfold Holds at *
  iintro ⟨HP, HR⟩
  ihave H := h $$ HP
  icases H with ⟨%f, H, K⟩
  iexists f
  isplitl [H]; · iexact H
  iintro %g H
  isplitl [H K]
  · iapply K; iexact H
  · iexact HR

theorem Holds.right {P R : sProp 𝕄} {sp : Space} {s : Shape} {e : EltTy} {m : Memref sig c.2.kind sp s e}
    (h : Holds (Ix := Ix) (Val := Val) (Name := Name) (U := U) (Lvl := Lvl) c R m) : Holds (Ix := Ix) (Val := Val) (Name := Name) (U := U) (Lvl := Lvl) c iprop(P ∗ R) m := by
  unfold Holds at *
  iintro ⟨HP, HR⟩
  ihave H := h $$ HR
  icases H with ⟨%f, H, K⟩
  iexists f
  isplitl [H]; · iexact H
  iintro %g H
  isplitl [HP]; · iexact HP
  iapply K; iexact H

end Keep

end
-- ==== Proof.DaIdealBody.lean ====
/-
  The differential attention's body gives back what it holds: the buffers it reads stay as they were, its output block
  and its three scratch buffers end at some contents, whichever way its branches went.
-/
module

public import proofs.«01_k».proof.Proof.Gen.DaIdeal.Frame
public import proofs.«01_k».proof.Proof.Keep

@[expose] public section

noncomputable section

namespace Cert.DaIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.DaIdeal Cert.DaIdeal.Gen Keep

variable {F : FTy → Type} [FloatOps F]

local notation "𝕄" => MT nD τ sig Unit (Elt F) ℕ (UR sig nD τ) ℕ

set_option maxHeartbeats 0 in
set_option maxRecDepth 100000 in
/-- The whole body, statement by statement: a load borrows its buffer, a store its output or scratch buffer, every
    other statement only names a value; both sides of a branch are followed. -/
theorem body_keeps (c : Dev nD) (R : sProp 𝕄) (i : grid0.Coords)
    (arg3 : Memref sig .tc .smem S8 .f32) (harg3 : arg3.IsWhole)
    (arg4 : Memref sig .tc .vmem S128x2048 .bf16) (harg4 : arg4.IsWhole)
    (arg5 : Memref sig .tc .vmem S2048x128 .bf16) (harg5 : arg5.IsWhole)
    (arg6 : Memref sig .tc .vmem S128x2048 .bf16) (harg6 : arg6.IsWhole)
    (arg7 : Memref sig .tc .vmem S15x256x256 .f32) (harg7 : arg7.IsWhole)
    (arg8 : Memref sig .tc .vmem S4x64 .f32) (harg8 : arg8.IsWhole)
    (arg9 : Memref sig .tc .vmem S1x128 .f32) (harg9 : arg9.IsWhole)
    (arg10 : Memref sig .tc .vmem S2048x128 .bf16) (harg10 : arg10.IsWhole)
    (arg11 : Memref sig .tc .vmem S2x2048x128 .bf16) (harg11 : arg11.IsWhole)
    (arg12 : Memref sig .tc .vmem S144x2048 .bf16) (harg12 : arg12.IsWhole)
    (arg13 : Memref sig .tc .vmem S2x1x128 .f32) (harg13 : arg13.IsWhole)
    (h3 : Lends (c : Thread nD τ) R arg3) (h4 : Lends (c : Thread nD τ) R arg4) (h5 : Lends (c : Thread nD τ) R arg5)
    (h6 : Lends (c : Thread nD τ) R arg6) (h7 : Lends (c : Thread nD τ) R arg7) (h8 : Lends (c : Thread nD τ) R arg8)
    (h9 : Lends (c : Thread nD τ) R arg9) (h10 : Holds (c : Thread nD τ) R arg10) (h11 : Holds (c : Thread nD τ) R arg11)
    (h12 : Holds (c : Thread nD τ) R arg12) (h13 : Holds (c : Thread nD τ) R arg13) :
    Keeps (defs₀ (F := F)) Variants.none (c : Thread nD τ) none Set.univ R
      (cc0_da_attn i arg3 harg3 arg4 harg4 arg5 harg5 arg6 harg6 arg7 harg7 arg8 harg8 arg9 harg9 arg10 harg10
        arg11 harg11 arg12 harg12 arg13 harg13) := by
  have l10 := h10.lends
  have l11 := h11.lends
  have l12 := h12.lends
  have l13 := h13.lends
  delta cc0_da_attn
  repeat' (first
    | (with_reducible first
        | refine Keeps.bind ?_ fun _ => ?_
        | exact Keeps.load (by assumption)
        | exact Keeps.store (by assumption)
        | exact Keeps.pure _
        | exact Keeps.ret _
        | extract_lets
        | split)
    | delta
        k0_part1 k0_part2 k0_part3 k0_part4 k0_part5 k0_part6 k0_part7 k0_part8 k0_part9 k0_part10 k0_part11 k0_part12
        k0_part13 k0_part14 k0_part15 k0_part16 k0_part17 k0_part18 k0_part19 k0_part20 k0_part21 k0_part22 k0_part23 k0_part24
        k0_part25 k0_part26 k0_part27 k0_part28 k0_part29 k0_part30 k0_part31 k0_part32 k0_part33 k0_part34 k0_part35 k0_part36
        k0_part37 k0_part38 k0_part39 k0_part40 k0_part41 k0_part42 k0_part43 k0_part44 k0_part45 k0_part46 k0_part47 k0_part48
        k0_part49 k0_part50 k0_part51 k0_part52 k0_part53 k0_part54 k0_part55 k0_part56 k0_part57 k0_part58 k0_part59 k0_part60
        k0_part61 k0_part62 k0_part63 k0_part64 k0_part65 k0_part66 k0_part67 k0_part68 k0_part69 k0_part70 k0_part71 k0_part72
        k0_part73 k0_part74 k0_part75 k0_part76 k0_part77 k0_part78 k0_part79 k0_part80 k0_part81 k0_part82 k0_part83 k0_part84
        k0_part85 k0_part86 k0_part87 k0_part88 k0_part89 k0_part90 k0_part91 k0_part92 k0_part93 k0_part94 k0_part95 k0_part96
        k0_part97 k0_part98 k0_part99 k0_part100 k0_part101 k0_part102 k0_part103 k0_part104 k0_part105 k0_part106 k0_part107 k0_part108
        k0_part109 k0_part110 k0_part111 k0_part112 k0_part113 k0_part114 k0_part115 k0_part116 k0_part117 k0_part118 k0_part119 k0_part120
        k0_part121 k0_part122 k0_part123 k0_part124 k0_part125 k0_part126 k0_part127 k0_part128 k0_part129 k0_part130 k0_part131 k0_part132
        k0_part133 k0_part134 k0_part135 k0_part136 k0_part137 k0_part138 k0_part139 k0_part140 k0_part141 k0_part142 k0_part143 k0_part144
        k0_part145 k0_part146 k0_part147 k0_part148
    | exact Keeps.word (by assumption))

end Cert.DaIdeal.Hand

end
-- ==== Proof.DaIdealFrame.lean ====
/-
  The differential attention's frame: every run ends, its arguments are as they were and its counters at zero. What
  its output holds is left open: the output's window is one of which the run's proof data say nothing.
-/
module

public import proofs.«01_k».proof.Proof.DaIdealBody
public import proofs.«01_k».proof.Proof.KeepOwns
public import Idealize.ShloMosaic.Lib.Claim

@[expose] public section

noncomputable section

namespace Cert.DaIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation)
open Cert.DaIdeal Cert.DaIdeal.Gen Keep

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the region finds them, every input's buffer at its block after each point; the
    output's entry is a placeholder, since its window is forgotten. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ _ := Pipeline.ΦA spec0 c
  q _ := fullShare
  owed _ := 0

theorem A_eq (c : Dev nD) (w : Fin cfg0.W) : (dats m 0 c).A w = V m c (Pipeline.arrRef spec0 w) := by
  dsimp only [dats]

theorem left_0 (c : Dev nD) (t : Fin cfg0.N) : (dats m 0 c).after 0 t = iblk m c 0 t := by dsimp only [dats]
theorem left_1 (c : Dev nD) (t : Fin cfg0.N) : (dats m 0 c).after 1 t = iblk m c 1 t := by dsimp only [dats]
theorem left_2 (c : Dev nD) (t : Fin cfg0.N) : (dats m 0 c).after 2 t = iblk m c 2 t := by dsimp only [dats]
theorem left_3 (c : Dev nD) (t : Fin cfg0.N) : (dats m 0 c).after 3 t = iblk m c 3 t := by dsimp only [dats]
theorem left_4 (c : Dev nD) (t : Fin cfg0.N) : (dats m 0 c).after 4 t = iblk m c 4 t := by dsimp only [dats]
theorem left_5 (c : Dev nD) (t : Fin cfg0.N) : (dats m 0 c).after 5 t = iblk m c 5 t := by dsimp only [dats]
theorem left_6 (c : Dev nD) (t : Fin cfg0.N) : (dats m 0 c).after 6 t = iblk m c 6 t := by dsimp only [dats]

/-- The window that is forgotten: the output's. -/
abbrev fgt : Fin cfg0.W → Bool := ![false, false, false, false, false, false, false, true]

/-- The three scratch buffers at some contents. -/
theorem Phi_eq (c : Dev nD) :
    (Pipeline.ΦA spec0 c : sProp 𝕄)
      = iprop(((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- What a point's body works on: the scratch buffers and the output block at some contents, the inputs at theirs. -/
def holding (c : Dev nD) (t : Fin cfg0.N) : sProp 𝕄 :=
  iprop((∃ d, owns (c : Thread nD τ) (Memref.whole cc0_scratch0) fullShare d)
    ∗ (∃ d, owns (c : Thread nD τ) (Memref.whole cc0_scratch1) fullShare d)
    ∗ (∃ d, owns (c : Thread nD τ) (Memref.whole cc0_scratch2) fullShare d)
    ∗ (∃ d, owns (c : Thread nD τ) (st0_7 t) fullShare d)
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t))

theorem body_holding (c : Dev nD) (t : Fin cfg0.N) :
    holding m c t ⊢ wp frame (wpE (defs₀ (F := F)) Variants.none c none) Set.univ (bodyAt0 t) (fun _ => holding m c t) := by
  refine body_keeps c (holding m c t) _ _ _ _ _ _ _ _ _ _ _ _ _ _ _ _ _ _ _ _ _ _ _ ?_ ?_ ?_ ?_ ?_ ?_ ?_ ?_ ?_ ?_ ?_ <;>
    unfold holding
  · exact .right (.right (.right (.right (.left (.owns _ _)))))
  · exact .right (.right (.right (.right (.right (.left (.owns _ _))))))
  · exact .right (.right (.right (.right (.right (.right (.left (.owns _ _)))))))
  · exact .right (.right (.right (.right (.right (.right (.right (.left (.owns _ _))))))))
  · exact .right (.right (.right (.right (.right (.right (.right (.right (.left (.owns _ _)))))))))
  · exact .right (.right (.right (.right (.right (.right (.right (.right (.right (.left (.owns _ _))))))))))
  · exact .right (.right (.right (.right (.right (.right (.right (.right (.right (.right (.owns _ _))))))))))
  · exact .right (.right (.right (.left (.some _))))
  · exact .left (.some _)
  · exact .right (.left (.some _))
  · exact .right (.right (.left (.some _)))

theorem before_0 (c : Dev nD) (t : Fin cfg0.N) (d) : (dats m 0 c).before 0 t d = iblk m c 0 t :=
  before0_0_of m (dats m 0 c) (A_eq m c 0) (left_0 m c) t d
theorem before_1 (c : Dev nD) (t : Fin cfg0.N) (d) : (dats m 0 c).before 1 t d = iblk m c 1 t :=
  before0_1_of m (dats m 0 c) (A_eq m c 1) (left_1 m c) t d
theorem before_2 (c : Dev nD) (t : Fin cfg0.N) (d) : (dats m 0 c).before 2 t d = iblk m c 2 t :=
  before0_2_of m (dats m 0 c) (A_eq m c 2) (left_2 m c) t d
theorem before_3 (c : Dev nD) (t : Fin cfg0.N) (d) : (dats m 0 c).before 3 t d = iblk m c 3 t :=
  before0_3_of m (dats m 0 c) (A_eq m c 3) (left_3 m c) t d
theorem before_4 (c : Dev nD) (t : Fin cfg0.N) (d) : (dats m 0 c).before 4 t d = iblk m c 4 t :=
  before0_4_of m (dats m 0 c) (A_eq m c 4) (left_4 m c) t d
theorem before_5 (c : Dev nD) (t : Fin cfg0.N) (d) : (dats m 0 c).before 5 t d = iblk m c 5 t :=
  before0_5_of m (dats m 0 c) (A_eq m c 5) (left_5 m c) t d
theorem before_6 (c : Dev nD) (t : Fin cfg0.N) (d) : (dats m 0 c).before 6 t d = iblk m c 6 t :=
  before0_6_of m (dats m 0 c) (A_eq m c 6) (left_6 m c) t d

/-- What the body is called with, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ X, owns (c : Thread nD τ) (st0_7 t) fullShare X))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, owns (c : Thread nD τ) (st0_7 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    left_0, left_1, left_2, left_3, left_4, left_5, left_6]
  rw [show (dats m 0 c).Φ t.castSucc = Pipeline.ΦA spec0 c from rfl, Phi_eq]
  refine BIBase.Entails.trans
    (show _ ⊢ iprop(holding m c t ∗ ((∃ r, prngReg c r) ∗ (dats m 0 c).owesAt () t.castSucc)) from ?_) (((sep_mono_left (body_holding m c t)).trans (wp_frame_r _ _ _)).trans (wp_mono _ _ _ fun _ => ?_))
  · unfold holding
    iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, H7⟩
    isplitr [Hg Ho]
    · isplitl [S0]; · iexact S0
      isplitl [S1]; · iexact S1
      isplitl [S2]; · iexact S2
      isplitl [H7]; · iexact H7
      isplitl [H0]; · iexact H0
      isplitl [H1]; · iexact H1
      isplitl [H2]; · iexact H2
      isplitl [H3]; · iexact H3
      isplitl [H4]; · iexact H4
      isplitl [H5]; · iexact H5
      iexact H6
    · isplitl [Hg]; · iexact Hg
      iexact Ho
  · unfold holding
    iintro ⟨⟨S0, S1, S2, H7, H0, H1, H2, H3, H4, H5, H6⟩, Hg, Ho⟩
    isplitl [S0 S1 S2 Hg]
    · isplitr [Hg]
      · isplitl [S0]; · iexact S0
        isplitl [S1]; · iexact S1
        iexact S2
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at a point is the body there. -/
theorem row_eq (t : Fin cfg0.N) :
    defs₀ (F := F) .tc cfg0.body (cfg0.bodyArgs t (cfg0.slots t)) = bodyAt0 t := by
  unfold defs₀; rw [Defs.onTc_tc]

/-- The body obligation, the output's window forgotten. -/
theorem body_obligation (c : Dev nD) :
    BodyObligation (dats (F := F) m 0 c) (defs₀ (F := F)) Variants.none () Set.univ (fgt := fgt) := fun t => by
  rw [bigSep_W0, bigSep_W0, row_eq]
  exact triple_restated (sound_body m c t) rfl .rfl fun _ => .rfl

set_option backward.isDefEq.respectTransparency.types false in
/-- The launch: every run ends, each array of the pipeline at contents it may hold, the counters at zero. -/
theorem run_main : θ_run defs (onTc (τ := τ) (main (F := F))) (s₀ m ρ)
    (fun r => RDat.FramePost cfg0 (fun c => (dats m 0 c).toRForget fgt) (V m) r ∧ r.2.sem = fun _ => 0) :=
  Pipeline.θ_run_frame_forget cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (Q' := fun r => RDat.FramePost cfg0 (fun c => (dats m 0 c).toRForget fgt) (V m) r ∧ r.2.sem = fun _ => 0)
    (hQ' := fun _ h => h)

/-- An input's array ends as the region found it. -/
theorem arr_kept (c : Dev nD) (w : Fin cfg0.W) (hw : fgt w = false) (hin : (cfg0.win w).isOut = false)
    (X : Buf (Elt F) ((cfg0.win w).arr.view.loc (c.tc : Thread nD τ)))
    (h : ((dats m 0 c).toRForget fgt).ArrAt w cfg0.N X) : X = V m c (Pipeline.arrRef spec0 w) :=
  (((dats m 0 c).toRForget_arrAt_iff hw _ X).mp h).trans (((dats m 0 c).arrAt_in w hin _).trans (A_eq m c w))

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨(arr_kept m c 1 rfl rfl _ ((h.1 c).1 1)).trans (V_main_arg0 m c),
     (arr_kept m c 2 rfl rfl _ ((h.1 c).1 2)).trans (V_main_arg1 m c),
     (arr_kept m c 3 rfl rfl _ ((h.1 c).1 3)).trans (V_main_arg2 m c),
     ((h.1 c).2 main_arg3 (Pipeline.mem_restRefs_of main_arg3 (by decide) (by decide))).trans (V_main_arg3 m c),
     ((h.1 c).2 main_arg4 (Pipeline.mem_restRefs_of main_arg4 (by decide) (by decide))).trans (V_main_arg4 m c),
     (arr_kept m c 0 rfl rfl _ ((h.1 c).1 0)).trans (V_main_arg5 m c)⟩, h.2⟩) (run_main m ρ)

end Cert.DaIdeal.Hand

end
-- ==== Proof.SwIdealBody.lean ====
/-
  The window attention's body gives back what it holds: the buffers it reads stay as they were, its output block
  and its three scratch buffers end at some contents, whichever way its branches went.
-/
module

public import proofs.«01_k».proof.Proof.Gen.SwIdeal.Frame
public import proofs.«01_k».proof.Proof.Keep

@[expose] public section

noncomputable section

namespace Cert.SwIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.SwIdeal Cert.SwIdeal.Gen Keep

variable {F : FTy → Type} [FloatOps F]

local notation "𝕄" => MT nD τ sig Unit (Elt F) ℕ (UR sig nD τ) ℕ

set_option maxHeartbeats 0 in
set_option maxRecDepth 100000 in
/-- The whole body, statement by statement: a load borrows its buffer, a store its output or scratch buffer, every
    other statement only names a value; both sides of a branch are followed. -/
theorem body_keeps (c : Dev nD) (R : sProp 𝕄) (i : grid0.Coords)
    (arg3 : Memref sig .tc .smem S16 .f32) (harg3 : arg3.IsWhole)
    (arg4 : Memref sig .tc .vmem S256x2048 .bf16) (harg4 : arg4.IsWhole)
    (arg5 : Memref sig .tc .vmem S2048x128 .bf16) (harg5 : arg5.IsWhole)
    (arg6 : Memref sig .tc .vmem S64x2048 .bf16) (harg6 : arg6.IsWhole)
    (arg7 : Memref sig .tc .vmem S1x3x384x512 .f32) (harg7 : arg7.IsWhole)
    (arg8 : Memref sig .tc .vmem S2048x256 .bf16) (harg8 : arg8.IsWhole)
    (arg9 : Memref sig .tc .vmem S2048x128 .bf16) (harg9 : arg9.IsWhole)
    (arg10 : Memref sig .tc .vmem S16x80x128 .bf16) (harg10 : arg10.IsWhole)
    (arg11 : Memref sig .tc .vmem S1x128 .f32) (harg11 : arg11.IsWhole)
    (h3 : Lends (c : Thread nD τ) R arg3) (h4 : Lends (c : Thread nD τ) R arg4) (h5 : Lends (c : Thread nD τ) R arg5) (h6 : Lends (c : Thread nD τ) R arg6)
    (h7 : Lends (c : Thread nD τ) R arg7) (h8 : Holds (c : Thread nD τ) R arg8) (h9 : Holds (c : Thread nD τ) R arg9)
    (h10 : Holds (c : Thread nD τ) R arg10) (h11 : Holds (c : Thread nD τ) R arg11) :
    Keeps (defs₀ (F := F)) Variants.none (c : Thread nD τ) none Set.univ R
      (cc0_sw_attn i arg3 harg3 arg4 harg4 arg5 harg5 arg6 harg6 arg7 harg7 arg8 harg8 arg9 harg9 arg10 harg10
        arg11 harg11) := by
  have l8 := h8.lends
  have l9 := h9.lends
  have l10 := h10.lends
  have l11 := h11.lends
  delta cc0_sw_attn
  repeat' (first
    | (with_reducible first
        | refine Keeps.bind ?_ fun _ => ?_
        | exact Keeps.load (by assumption)
        | exact Keeps.store (by assumption)
        | exact Keeps.pure _
        | exact Keeps.ret _
        | extract_lets
        | split)
    | delta
        k0_part1 k0_part2 k0_part3 k0_part4 k0_part5 k0_part6 k0_part7 k0_part8 k0_part9 k0_part10 k0_part11 k0_part12
        k0_part13 k0_part14 k0_part15 k0_part16 k0_part17 k0_part18 k0_part19 k0_part20 k0_part21 k0_part22 k0_part23 k0_part24
        k0_part25 k0_part26 k0_part27 k0_part28 k0_part29 k0_part30 k0_part31 k0_part32 k0_part33 k0_part34 k0_part35 k0_part36
        k0_part37 k0_part38 k0_part39 k0_part40 k0_part41 k0_part42 k0_part43 k0_part44 k0_part45 k0_part46 k0_part47 k0_part48
        k0_part49 k0_part50 k0_part51 k0_part52 k0_part53 k0_part54 k0_part55 k0_part56 k0_part57 k0_part58 k0_part59 k0_part60
        k0_part61 k0_part62 k0_part63 k0_part64 k0_part65 k0_part66 k0_part67 k0_part68 k0_part69 k0_part70 k0_part71 k0_part72
        k0_part73 k0_part74 k0_part75 k0_part76 k0_part77 k0_part78 k0_part79
    | exact Keeps.word (by assumption))

end Cert.SwIdeal.Hand

end
-- ==== Proof.SwIdealFrame.lean ====
/-
  The window attention's frame: every run ends, its arguments are as they were and its counters at zero. What
  its output holds is left open: the output's window is one of which the run's proof data say nothing.
-/
module

public import proofs.«01_k».proof.Proof.SwIdealBody
public import proofs.«01_k».proof.Proof.KeepOwns
public import Idealize.ShloMosaic.Lib.Claim

@[expose] public section

noncomputable section

namespace Cert.SwIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation)
open Cert.SwIdeal Cert.SwIdeal.Gen Keep

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the region finds them, every input's buffer at its block after each point; the
    output's entry is a placeholder, since its window is forgotten. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ _ := Pipeline.ΦA spec0 c
  q _ := fullShare
  owed _ := 0

theorem A_eq (c : Dev nD) (w : Fin cfg0.W) : (dats m 0 c).A w = V m c (Pipeline.arrRef spec0 w) := by
  dsimp only [dats]

theorem left_0 (c : Dev nD) (t : Fin cfg0.N) : (dats m 0 c).after 0 t = iblk m c 0 t := by dsimp only [dats]
theorem left_1 (c : Dev nD) (t : Fin cfg0.N) : (dats m 0 c).after 1 t = iblk m c 1 t := by dsimp only [dats]
theorem left_2 (c : Dev nD) (t : Fin cfg0.N) : (dats m 0 c).after 2 t = iblk m c 2 t := by dsimp only [dats]
theorem left_3 (c : Dev nD) (t : Fin cfg0.N) : (dats m 0 c).after 3 t = iblk m c 3 t := by dsimp only [dats]
theorem left_4 (c : Dev nD) (t : Fin cfg0.N) : (dats m 0 c).after 4 t = iblk m c 4 t := by dsimp only [dats]

/-- The window that is forgotten: the output's. -/
abbrev fgt : Fin cfg0.W → Bool := ![false, false, false, false, false, true]

/-- The three scratch buffers at some contents. -/
theorem Phi_eq (c : Dev nD) :
    (Pipeline.ΦA spec0 c : sProp 𝕄)
      = iprop(((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- What a point's body works on: the scratch buffers and the output block at some contents, the inputs at theirs. -/
def holding (c : Dev nD) (t : Fin cfg0.N) : sProp 𝕄 :=
  iprop((∃ d, owns (c : Thread nD τ) (Memref.whole cc0_scratch0) fullShare d)
    ∗ (∃ d, owns (c : Thread nD τ) (Memref.whole cc0_scratch1) fullShare d)
    ∗ (∃ d, owns (c : Thread nD τ) (Memref.whole cc0_scratch2) fullShare d)
    ∗ (∃ d, owns (c : Thread nD τ) (st0_5 t) fullShare d)
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t))

theorem body_holding (c : Dev nD) (t : Fin cfg0.N) :
    holding m c t ⊢ wp frame (wpE (defs₀ (F := F)) Variants.none c none) Set.univ (bodyAt0 t) (fun _ => holding m c t) := by
  refine body_keeps c (holding m c t) _ _ _ _ _ _ _ _ _ _ _ _ _ _ _ _ _ _ _ ?_ ?_ ?_ ?_ ?_ ?_ ?_ ?_ ?_ <;>
    unfold holding
  · exact .right (.right (.right (.right (.left (.owns _ _)))))
  · exact .right (.right (.right (.right (.right (.left (.owns _ _))))))
  · exact .right (.right (.right (.right (.right (.right (.left (.owns _ _)))))))
  · exact .right (.right (.right (.right (.right (.right (.right (.left (.owns _ _))))))))
  · exact .right (.right (.right (.right (.right (.right (.right (.right (.owns _ _))))))))
  · exact .right (.right (.right (.left (.some _))))
  · exact .left (.some _)
  · exact .right (.left (.some _))
  · exact .right (.right (.left (.some _)))

theorem before_0 (c : Dev nD) (t : Fin cfg0.N) (d) : (dats m 0 c).before 0 t d = iblk m c 0 t :=
  before0_0_of m (dats m 0 c) (A_eq m c 0) (left_0 m c) t d
theorem before_1 (c : Dev nD) (t : Fin cfg0.N) (d) : (dats m 0 c).before 1 t d = iblk m c 1 t :=
  before0_1_of m (dats m 0 c) (A_eq m c 1) (left_1 m c) t d
theorem before_2 (c : Dev nD) (t : Fin cfg0.N) (d) : (dats m 0 c).before 2 t d = iblk m c 2 t :=
  before0_2_of m (dats m 0 c) (A_eq m c 2) (left_2 m c) t d
theorem before_3 (c : Dev nD) (t : Fin cfg0.N) (d) : (dats m 0 c).before 3 t d = iblk m c 3 t :=
  before0_3_of m (dats m 0 c) (A_eq m c 3) (left_3 m c) t d
theorem before_4 (c : Dev nD) (t : Fin cfg0.N) (d) : (dats m 0 c).before 4 t d = iblk m c 4 t :=
  before0_4_of m (dats m 0 c) (A_eq m c 4) (left_4 m c) t d

/-- What the body is called with, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, owns (c : Thread nD τ) (st0_5 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4]
  rw [show (dats m 0 c).Φ t.succ = (dats m 0 c).Φ t.castSucc from rfl,
    show (dats m 0 c).owesAt () t.succ = (dats m 0 c).owesAt () t.castSucc from rfl,
    left_0, left_1, left_2, left_3, left_4]
  rw [show (dats m 0 c).Φ t.castSucc = Pipeline.ΦA spec0 c from rfl, Phi_eq]
  refine BIBase.Entails.trans
    (show _ ⊢ iprop(holding m c t ∗ ((∃ r, prngReg c r) ∗ (dats m 0 c).owesAt () t.castSucc)) from ?_) (((sep_mono_left (body_holding m c t)).trans (wp_frame_r _ _ _)).trans (wp_mono _ _ _ fun _ => ?_))
  · unfold holding
    iintro ⟨⟨⟨S0, S1, S2⟩, Hg⟩, Ho, ⟨%d0, H0⟩, ⟨%d1, H1⟩, ⟨%d2, H2⟩, ⟨%d3, H3⟩, ⟨%d4, H4⟩, H5⟩
    isplitr [Hg Ho]
    · isplitl [S0]; · iexact S0
      isplitl [S1]; · iexact S1
      isplitl [S2]; · iexact S2
      isplitl [H5]; · iexact H5
      isplitl [H0]; · iexact H0
      isplitl [H1]; · iexact H1
      isplitl [H2]; · iexact H2
      isplitl [H3]; · iexact H3
      iexact H4
    · isplitl [Hg]; · iexact Hg
      iexact Ho
  · unfold holding
    iintro ⟨⟨S0, S1, S2, H5, H0, H1, H2, H3, H4⟩, Hg, Ho⟩
    isplitl [S0 S1 S2 Hg]
    · isplitr [Hg]
      · isplitl [S0]; · iexact S0
        isplitl [S1]; · iexact S1
        iexact S2
      · iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at a point is the body there. -/
theorem row_eq (t : Fin cfg0.N) :
    defs₀ (F := F) .tc cfg0.body (cfg0.bodyArgs t (cfg0.slots t)) = bodyAt0 t := by
  unfold defs₀; rw [Defs.onTc_tc]

/-- The body obligation, the output's window forgotten. -/
theorem body_obligation (c : Dev nD) :
    BodyObligation (dats (F := F) m 0 c) (defs₀ (F := F)) Variants.none () Set.univ (fgt := fgt) := fun t => by
  rw [bigSep_W0, bigSep_W0, row_eq]
  exact triple_restated (sound_body m c t) rfl .rfl fun _ => .rfl

set_option backward.isDefEq.respectTransparency.types false in
/-- The launch: every run ends, each array of the pipeline at contents it may hold, the counters at zero. -/
theorem run_main : θ_run defs (onTc (τ := τ) (main (F := F))) (s₀ m ρ)
    (fun r => RDat.FramePost cfg0 (fun c => (dats m 0 c).toRForget fgt) (V m) r ∧ r.2.sem = fun _ => 0) :=
  Pipeline.θ_run_frame_forget cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (Q' := fun r => RDat.FramePost cfg0 (fun c => (dats m 0 c).toRForget fgt) (V m) r ∧ r.2.sem = fun _ => 0)
    (hQ' := fun _ h => h)

/-- An input's array ends as the region found it. -/
theorem arr_kept (c : Dev nD) (w : Fin cfg0.W) (hw : fgt w = false) (hin : (cfg0.win w).isOut = false)
    (X : Buf (Elt F) ((cfg0.win w).arr.view.loc (c.tc : Thread nD τ)))
    (h : ((dats m 0 c).toRForget fgt).ArrAt w cfg0.N X) : X = V m c (Pipeline.arrRef spec0 w) :=
  (((dats m 0 c).toRForget_arrAt_iff hw _ X).mp h).trans (((dats m 0 c).arrAt_in w hin _).trans (A_eq m c w))

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨(arr_kept m c 1 rfl rfl _ ((h.1 c).1 1)).trans (V_main_arg0 m c),
     (arr_kept m c 2 rfl rfl _ ((h.1 c).1 2)).trans (V_main_arg1 m c),
     (arr_kept m c 3 rfl rfl _ ((h.1 c).1 3)).trans (V_main_arg2 m c),
     ((h.1 c).2 main_arg3 (Pipeline.mem_restRefs_of main_arg3 (by decide) (by decide))).trans (V_main_arg3 m c)⟩, h.2⟩) (run_main m ρ)

end Cert.SwIdeal.Hand

end
-- ==== Proof.lean ====
module

public import proofs.«01_k».proof.Defs
public import proofs.«01_k».proof.Proof.FfnFinal
public import proofs.«01_k».proof.Proof.MergeFinal
public import proofs.«01_k».proof.Proof.ProjFinal
public import proofs.«01_k».proof.Proof.ProjRefRun
public import proofs.«01_k».proof.Proof.MergeRefRun
public import proofs.«01_k».proof.Proof.DaFrame
public import proofs.«01_k».proof.Proof.DaIdealFrame
public import proofs.«01_k».proof.Proof.SwFrame
public import proofs.«01_k».proof.Proof.SwIdealFrame
public import proofs.«01_k».proof.Proof.Gen.Ffn.Frame
public import proofs.«01_k».proof.Proof.Gen.Merge.Frame
public import proofs.«01_k».proof.Proof.Gen.Proj.Frame
public import Idealize.ShloMosaic.Adequacy
public import Idealize.ShloMosaic.Init
public import Idealize.ShloMosaic.Lib.Quiescent
public import Idealize.ShloMosaic.Lib.Claim

@[expose] public section

set_option maxRecDepth 16384

noncomputable section

namespace Cert.Proof

open Idealize.ShloMosaic Idealize.SL.Sem

section Ffn

/-- The first feed-forward terminates, leaves its arguments unchanged and its counters at zero. -/
theorem ffn_frame [Cert.Ffn.Facts] : Cert.quiescent_Ffn := fun m g _ => Cert.Ffn.Gen.frame m g

/-- So does its idealization. -/
theorem ffn_frame_ideal [Cert.FfnIdeal.Facts] : Cert.quiescent_FfnIdeal := fun m g _ => Cert.FfnIdeal.Gen.frame m g

/-- So does its reference. -/
theorem ffn_frame_ref [Cert.FfnRefIdeal.Facts] : Cert.quiescent_FfnRefIdeal := by
  intro m g _
  exact (θ_run Cert.FfnRefIdeal.defs _ _).mono (fun r h => ⟨fun c => (h c).2, sem_eq_zero_of_no_sems (by decide) r.2⟩)
    (Cert.FfnRefIdeal.Value.run m g)

/-- The idealization rewrites nothing. -/
theorem ffn_preserves : Cert.preserves_Ffn_FfnIdeal := trivial

/-- The first feed-forward and its reference end with the same results over the extended reals. -/
theorem ffn_algebraic [Cert.FfnIdeal.Facts] [Cert.FfnRefIdeal.Facts] : Cert.algebraic_FfnIdeal_FfnRefIdeal := by
  pair_intro
  · run_from Cert.FfnIdeal.Gen.run_main m g
  · run_from Cert.FfnRefIdeal.Value.run m' g'
    exact (Cert.FfnIdeal.Final.final m c).symm

end Ffn

section Merge

/-- The merge and second feed-forward terminates, leaves its arguments unchanged and its counters at zero. -/
theorem merge_frame [Cert.Merge.Facts] : Cert.quiescent_Merge := fun m g _ => Cert.Merge.Gen.frame m g

/-- So does its idealization. -/
theorem merge_frame_ideal [Cert.MergeIdeal.Facts] : Cert.quiescent_MergeIdeal := fun m g _ => Cert.MergeIdeal.Gen.frame m g

/-- So does its reference. -/
theorem merge_frame_ref [Cert.MergeRefIdeal.Facts] : Cert.quiescent_MergeRefIdeal := by
  intro m g _
  exact (θ_run Cert.MergeRefIdeal.defs _ _).mono (fun r h => ⟨fun c => (h c).2, sem_eq_zero_of_no_sems (by decide) r.2⟩)
    (Cert.MergeRefIdeal.Rows.run_ref m g)

/-- The idealization rewrites nothing. -/
theorem merge_preserves : Cert.preserves_Merge_MergeIdeal := trivial

/-- The merge and second feed-forward and its reference end with the same results over the extended reals. -/
theorem merge_algebraic [Cert.MergeIdeal.Facts] [Cert.MergeRefIdeal.Facts] : Cert.algebraic_MergeIdeal_MergeRefIdeal := by
  pair_intro
  · run_from Cert.MergeIdeal.Gen.run_main m g
  · refine (θ_run Cert.MergeRefIdeal.defs _ _).mono (fun r h c => ?_) (Cert.MergeRefIdeal.Rows.run_ref m' g')
    refine ⟨?_, (h c).2⟩
    refine Eq.trans (h c).1 ?_
    exact (Cert.MergeRefIdeal.Rows.REF_congr (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2).trans (Cert.MergeIdeal.Final.final m c).symm

end Merge

section Proj

/-- The input projection terminates, leaves its arguments unchanged and its counters at zero. -/
theorem proj_frame [Cert.Proj.Facts] : Cert.quiescent_Proj := fun m g _ => Cert.Proj.Gen.frame m g

/-- So does its idealization. -/
theorem proj_frame_ideal [Cert.ProjIdeal.Facts] : Cert.quiescent_ProjIdeal := fun m g _ => Cert.ProjIdeal.Gen.frame m g

/-- So does its reference. -/
theorem proj_frame_ref [Cert.ProjRefIdeal.Facts] : Cert.quiescent_ProjRefIdeal := by
  intro m g _
  exact (θ_run Cert.ProjRefIdeal.defs _ _).mono (fun r h => ⟨fun c => (h c).2.2.2.2.2.2, sem_eq_zero_of_no_sems (by decide) r.2⟩)
    (Cert.ProjRefIdeal.Rows.run_ref m g)

/-- The idealization rewrites nothing. -/
theorem proj_preserves : Cert.preserves_Proj_ProjIdeal := trivial

set_option maxHeartbeats 2000000 in
/-- The input projection and its reference end with the same results over the extended reals. -/
theorem proj_algebraic [Cert.ProjIdeal.Facts] [Cert.ProjRefIdeal.Facts] : Cert.algebraic_ProjIdeal_ProjRefIdeal := by
  pair_intro
  · run_from Cert.ProjIdeal.Gen.run_main m g
  · refine (θ_run Cert.ProjRefIdeal.defs _ _).mono (fun r h c => ?_) (Cert.ProjRefIdeal.Rows.run_ref m' g')
    have h := h c
    have e0 := (hagree c).1
    have e1 := (hagree c).2.1
    have e2 := (hagree c).2.2
    refine ⟨?_, ?_, ?_, ?_, ?_, ?_, h.2.2.2.2.2.2⟩
    · refine Eq.trans h.1 ?_
      exact (Cert.ProjRefIdeal.Rows.congr_args Cert.ProjRefIdeal.Rows.REF0 e0 e1 e2).trans (Cert.ProjIdeal.Final.final4 m c).symm
    · refine Eq.trans h.2.1 ?_
      exact (Cert.ProjRefIdeal.Rows.congr_args Cert.ProjRefIdeal.Rows.REF1 e0 e1 e2).trans (Cert.ProjIdeal.Final.final5 m c).symm
    · refine Eq.trans h.2.2.1 ?_
      exact (Cert.ProjRefIdeal.Rows.congr_args Cert.ProjRefIdeal.Rows.REF2 e0 e1 e2).trans (Cert.ProjIdeal.Final.final6 m c).symm
    · refine Eq.trans h.2.2.2.1 ?_
      exact (Cert.ProjRefIdeal.Rows.congr_args Cert.ProjRefIdeal.Rows.REF3 e0 e1 e2).trans (Cert.ProjIdeal.Final.final7 m c).symm
    · refine Eq.trans h.2.2.2.2.1 ?_
      exact (Cert.ProjRefIdeal.Rows.congr_args Cert.ProjRefIdeal.Rows.REF4 e0 e1 e2).trans (Cert.ProjIdeal.Final.final8 m c).symm
    · refine Eq.trans h.2.2.2.2.2.1 ?_
      exact (Cert.ProjRefIdeal.Rows.congr_args Cert.ProjRefIdeal.Rows.REF5 e0 e1 e2).trans (Cert.ProjIdeal.Final.final9 m c).symm

end Proj

section Da

/-- The differential attention terminates, leaves its arguments unchanged and its counters at zero. -/
theorem da_frame [Cert.Da.Facts] : Cert.quiescent_Da := fun m g _ => Cert.Da.Hand.frame m g

/-- So does its idealization. -/
theorem da_frame_ideal [Cert.DaIdeal.Facts] : Cert.quiescent_DaIdeal := fun m g _ => Cert.DaIdeal.Hand.frame m g

/-- The idealization rewrites nothing. -/
theorem da_preserves : Cert.preserves_Da_DaIdeal := trivial

end Da

section Sw

/-- The window attention terminates, leaves its arguments unchanged and its counters at zero. -/
theorem sw_frame [Cert.Sw.Facts] : Cert.quiescent_Sw := fun m g _ => Cert.Sw.Hand.frame m g

/-- So does its idealization. -/
theorem sw_frame_ideal [Cert.SwIdeal.Facts] : Cert.quiescent_SwIdeal := fun m g _ => Cert.SwIdeal.Hand.frame m g

/-- The idealization rewrites nothing. -/
theorem sw_preserves : Cert.preserves_Sw_SwIdeal := trivial

end Sw

/-- Everything claimed. -/
theorem claim : Cert.Claim :=
  ⟨Cert.Ffn.Gen.facts, Cert.FfnIdeal.Gen.facts, Cert.FfnRefIdeal.Gen.facts, Cert.Merge.Gen.facts, Cert.MergeIdeal.Gen.facts,
    Cert.MergeRefIdeal.Gen.facts, Cert.Proj.Gen.facts, Cert.ProjIdeal.Gen.facts, Cert.ProjRefIdeal.Gen.facts,
    Cert.Da.Gen.facts, Cert.DaIdeal.Gen.facts, Cert.Sw.Gen.facts, Cert.SwIdeal.Gen.facts,
    ffn_frame, ffn_frame_ideal, ffn_frame_ref, merge_frame, merge_frame_ideal, merge_frame_ref, proj_frame, proj_frame_ideal, proj_frame_ref,
    da_frame, da_frame_ideal, sw_frame, sw_frame_ideal,
    ffn_preserves, ffn_algebraic, merge_preserves, merge_algebraic, proj_preserves, proj_algebraic,
    da_preserves, sw_preserves⟩

end Cert.Proof

end
